-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits [hPre_fits : Cert.Pre_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ReferenceIdeal_normal [hPre_normal : Cert.Pre_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Slow (m : (ℓ : Loc Cert.Slow.nD Cert.Slow.τ Cert.Slow.sig) → Buf (Elt Bits) ℓ) : Prop :=
  True

def Pre_SlowIdeal (m : (ℓ : Loc Cert.SlowIdeal.nD Cert.SlowIdeal.τ Cert.SlowIdeal.sig) → Buf (Elt Ideal) ℓ) : Prop :=
  True

def Pre_SlowIdeal_normal [hPre_normal : Cert.Pre_normal.Facts] (m : (ℓ : Loc Cert.SlowIdeal.nD Cert.SlowIdeal.τ Cert.SlowIdeal.sig) → Buf (Elt Ideal) ℓ) : Prop :=
  ∀ c : Dev Cert.SlowIdeal.nD,
    (Cert.Pre_normal.fn (F := Ideal) (m ((c.tc : Thread Cert.SlowIdeal.nD Cert.SlowIdeal.τ).loc Cert.SlowIdeal.main_arg0)) (m ((c.tc : Thread Cert.SlowIdeal.nD Cert.SlowIdeal.τ).loc Cert.SlowIdeal.main_arg1)) (m ((c.tc : Thread Cert.SlowIdeal.nD Cert.SlowIdeal.τ).loc Cert.SlowIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_fits [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fits [hReferenceIdeal : Cert.ReferenceIdeal.Facts] [hPre_fits : Cert.Pre_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal [hReferenceIdeal : Cert.ReferenceIdeal.Facts] [hPre_normal : Cert.Pre_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Slow [hSlow : Cert.Slow.Facts] : Prop :=
  ∀ (m : (ℓ : Loc Cert.Slow.nD Cert.Slow.τ Cert.Slow.sig) → Buf (Elt Bits) ℓ) (g : Dev Cert.Slow.nD → PrngReg), Pre_Slow m →
    θ_run (Cert.Slow.defs (F := Bits)) (onTc (τ := Cert.Slow.τ) (Cert.Slow.main (F := Bits))) ⟨m, fun _ => 0, g⟩ (fun r => (∀ c : Dev Cert.Slow.nD,
      r.2.mem ((c.tc : Thread Cert.Slow.nD Cert.Slow.τ).loc Cert.Slow.main_arg0) = m ((c.tc : Thread Cert.Slow.nD Cert.Slow.τ).loc Cert.Slow.main_arg0)
      ∧ r.2.mem ((c.tc : Thread Cert.Slow.nD Cert.Slow.τ).loc Cert.Slow.main_arg1) = m ((c.tc : Thread Cert.Slow.nD Cert.Slow.τ).loc Cert.Slow.main_arg1)
      ∧ r.2.mem ((c.tc : Thread Cert.Slow.nD Cert.Slow.τ).loc Cert.Slow.main_arg2) = m ((c.tc : Thread Cert.Slow.nD Cert.Slow.τ).loc Cert.Slow.main_arg2))
      ∧ r.2.sem = fun _ => 0)

def quiescent_SlowIdeal [hSlowIdeal : Cert.SlowIdeal.Facts] : Prop :=
  ∀ (m : (ℓ : Loc Cert.SlowIdeal.nD Cert.SlowIdeal.τ Cert.SlowIdeal.sig) → Buf (Elt Ideal) ℓ) (g : Dev Cert.SlowIdeal.nD → PrngReg), Pre_SlowIdeal m →
    θ_run (Cert.SlowIdeal.defs (F := Ideal)) (onTc (τ := Cert.SlowIdeal.τ) (Cert.SlowIdeal.main (F := Ideal))) ⟨m, fun _ => 0, g⟩ (fun r => (∀ c : Dev Cert.SlowIdeal.nD,
      r.2.mem ((c.tc : Thread Cert.SlowIdeal.nD Cert.SlowIdeal.τ).loc Cert.SlowIdeal.main_arg0) = m ((c.tc : Thread Cert.SlowIdeal.nD Cert.SlowIdeal.τ).loc Cert.SlowIdeal.main_arg0)
      ∧ r.2.mem ((c.tc : Thread Cert.SlowIdeal.nD Cert.SlowIdeal.τ).loc Cert.SlowIdeal.main_arg1) = m ((c.tc : Thread Cert.SlowIdeal.nD Cert.SlowIdeal.τ).loc Cert.SlowIdeal.main_arg1)
      ∧ r.2.mem ((c.tc : Thread Cert.SlowIdeal.nD Cert.SlowIdeal.τ).loc Cert.SlowIdeal.main_arg2) = m ((c.tc : Thread Cert.SlowIdeal.nD Cert.SlowIdeal.τ).loc Cert.SlowIdeal.main_arg2))
      ∧ r.2.sem = fun _ => 0)

def quiescent_SlowIdeal_pre_normal [hSlowIdeal : Cert.SlowIdeal.Facts] [hPre_normal : Cert.Pre_normal.Facts] : Prop :=
  ∀ (m : (ℓ : Loc Cert.SlowIdeal.nD Cert.SlowIdeal.τ Cert.SlowIdeal.sig) → Buf (Elt Ideal) ℓ) (g : Dev Cert.SlowIdeal.nD → PrngReg), Pre_SlowIdeal_normal m →
    θ_run (Cert.SlowIdeal.defs (F := Ideal)) (onTc (τ := Cert.SlowIdeal.τ) (Cert.SlowIdeal.main (F := Ideal))) ⟨m, fun _ => 0, g⟩ (fun r => (∀ c : Dev Cert.SlowIdeal.nD,
      r.2.mem ((c.tc : Thread Cert.SlowIdeal.nD Cert.SlowIdeal.τ).loc Cert.SlowIdeal.main_arg0) = m ((c.tc : Thread Cert.SlowIdeal.nD Cert.SlowIdeal.τ).loc Cert.SlowIdeal.main_arg0)
      ∧ r.2.mem ((c.tc : Thread Cert.SlowIdeal.nD Cert.SlowIdeal.τ).loc Cert.SlowIdeal.main_arg1) = m ((c.tc : Thread Cert.SlowIdeal.nD Cert.SlowIdeal.τ).loc Cert.SlowIdeal.main_arg1)
      ∧ r.2.mem ((c.tc : Thread Cert.SlowIdeal.nD Cert.SlowIdeal.τ).loc Cert.SlowIdeal.main_arg2) = m ((c.tc : Thread Cert.SlowIdeal.nD Cert.SlowIdeal.τ).loc Cert.SlowIdeal.main_arg2))
      ∧ r.2.sem = fun _ => 0)

def preserves_Kernel_KernelIdeal : Prop :=
  True

def algebraic_KernelIdeal_ReferenceIdeal_pre_fits [hKernelIdeal : Cert.KernelIdeal.Facts] [hReferenceIdeal : Cert.ReferenceIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Slow_SlowIdeal : Prop :=
  True

def algebraic_SlowIdeal_ReferenceIdeal_pre_normal [hSlowIdeal : Cert.SlowIdeal.Facts] [hReferenceIdeal : Cert.ReferenceIdeal.Facts] [hPre_normal : Cert.Pre_normal.Facts] : Prop :=
  ∀ (m : (ℓ : Loc Cert.SlowIdeal.nD Cert.SlowIdeal.τ Cert.SlowIdeal.sig) → Buf (Elt Ideal) ℓ) (g : Dev Cert.SlowIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SlowIdeal_normal m →
    (∀ c : Dev Cert.SlowIdeal.nD,
      m' ((c.tc : Thread Cert.ReferenceIdeal.nD Cert.ReferenceIdeal.τ).loc Cert.ReferenceIdeal.main_arg0) = m ((c.tc : Thread Cert.SlowIdeal.nD Cert.SlowIdeal.τ).loc Cert.SlowIdeal.main_arg0)
      ∧ m' ((c.tc : Thread Cert.ReferenceIdeal.nD Cert.ReferenceIdeal.τ).loc Cert.ReferenceIdeal.main_arg1) = m ((c.tc : Thread Cert.SlowIdeal.nD Cert.SlowIdeal.τ).loc Cert.SlowIdeal.main_arg1)
      ∧ m' ((c.tc : Thread Cert.ReferenceIdeal.nD Cert.ReferenceIdeal.τ).loc Cert.ReferenceIdeal.main_arg2) = m ((c.tc : Thread Cert.SlowIdeal.nD Cert.SlowIdeal.τ).loc Cert.SlowIdeal.main_arg2)) →
    ∃ (v0 : (c : Dev Cert.SlowIdeal.nD) → Buf (Elt Ideal) ((c.tc : Thread Cert.SlowIdeal.nD Cert.SlowIdeal.τ).loc Cert.SlowIdeal.main_v2_0)) (v1 : (c : Dev Cert.SlowIdeal.nD) → Buf (Elt Ideal) ((c.tc : Thread Cert.SlowIdeal.nD Cert.SlowIdeal.τ).loc Cert.SlowIdeal.main_v2_1)) (v2 : (c : Dev Cert.SlowIdeal.nD) → Buf (Elt Ideal) ((c.tc : Thread Cert.SlowIdeal.nD Cert.SlowIdeal.τ).loc Cert.SlowIdeal.main_v2_2)),
      θ_run (Cert.SlowIdeal.defs (F := Ideal)) (onTc (τ := Cert.SlowIdeal.τ) (Cert.SlowIdeal.main (F := Ideal))) ⟨m, fun _ => 0, g⟩ (fun r => ∀ c : Dev Cert.SlowIdeal.nD,
          r.2.mem ((c.tc : Thread Cert.SlowIdeal.nD Cert.SlowIdeal.τ).loc Cert.SlowIdeal.main_v2_0) = v0 c
          ∧ r.2.mem ((c.tc : Thread Cert.SlowIdeal.nD Cert.SlowIdeal.τ).loc Cert.SlowIdeal.main_v2_1) = v1 c
          ∧ r.2.mem ((c.tc : Thread Cert.SlowIdeal.nD Cert.SlowIdeal.τ).loc Cert.SlowIdeal.main_v2_2) = v2 c
          ∧ r.2.mem ((c.tc : Thread Cert.SlowIdeal.nD Cert.SlowIdeal.τ).loc Cert.SlowIdeal.main_arg0) = m ((c.tc : Thread Cert.SlowIdeal.nD Cert.SlowIdeal.τ).loc Cert.SlowIdeal.main_arg0)
          ∧ r.2.mem ((c.tc : Thread Cert.SlowIdeal.nD Cert.SlowIdeal.τ).loc Cert.SlowIdeal.main_arg1) = m ((c.tc : Thread Cert.SlowIdeal.nD Cert.SlowIdeal.τ).loc Cert.SlowIdeal.main_arg1)
          ∧ r.2.mem ((c.tc : Thread Cert.SlowIdeal.nD Cert.SlowIdeal.τ).loc Cert.SlowIdeal.main_arg2) = m ((c.tc : Thread Cert.SlowIdeal.nD Cert.SlowIdeal.τ).loc Cert.SlowIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hSlow : Cert.Slow.Facts) (hSlowIdeal : Cert.SlowIdeal.Facts) (hPre_fits : Cert.Pre_fits.Facts) (hPre_normal : Cert.Pre_normal.Facts),
    quiescent_Kernel (hKernel := hKernel)
    ∧ quiescent_KernelIdeal (hKernelIdeal := hKernelIdeal)
    ∧ quiescent_KernelIdeal_pre_fits (hKernelIdeal := hKernelIdeal) (hPre_fits := hPre_fits)
    ∧ quiescent_ReferenceIdeal (hReferenceIdeal := hReferenceIdeal)
    ∧ quiescent_ReferenceIdeal_pre_fits (hReferenceIdeal := hReferenceIdeal) (hPre_fits := hPre_fits)
    ∧ quiescent_ReferenceIdeal_pre_normal (hReferenceIdeal := hReferenceIdeal) (hPre_normal := hPre_normal)
    ∧ quiescent_Slow (hSlow := hSlow)
    ∧ quiescent_SlowIdeal (hSlowIdeal := hSlowIdeal)
    ∧ quiescent_SlowIdeal_pre_normal (hSlowIdeal := hSlowIdeal) (hPre_normal := hPre_normal)
    ∧ preserves_Kernel_KernelIdeal
    ∧ algebraic_KernelIdeal_ReferenceIdeal_pre_fits (hKernelIdeal := hKernelIdeal) (hReferenceIdeal := hReferenceIdeal) (hPre_fits := hPre_fits)
    ∧ preserves_Slow_SlowIdeal
    ∧ algebraic_SlowIdeal_ReferenceIdeal_pre_normal (hSlowIdeal := hSlowIdeal) (hReferenceIdeal := hReferenceIdeal) (hPre_normal := hPre_normal)
-- ==== Pre_fits.lean ====
abbrev S6x1024x7168 : Shape := ⟨3, ![6, 1024, 7168]⟩
abbrev S4608x3584 : Shape := ⟨2, ![4608, 3584]⟩
abbrev S4608x224 : Shape := ⟨2, ![4608, 224]⟩
abbrev S_ : Shape := ⟨0, ![]⟩
abbrev S4608 : Shape := ⟨1, ![4608]⟩

class Facts : Prop where
  natLt_8_32 : 8 < 32
  reducesTo_S4608x224_S4608_d1 : S4608x224.ReducesTo [1] S4608
  h_S_ : 0 < S_.numel
  bcast_S_S4608 : S_.BroadcastsInDim S4608 (![] : Fin 0 → Fin S4608.rank)
  reducesTo_S4608_S_d0 : S4608.ReducesTo [0] S_
  bitsLt_bf16_f32 : FTy.bits .bf16 < FTy.bits .f32
  bcast_S_S6x1024x7168 : S_.BroadcastsInDim S6x1024x7168 (![] : Fin 0 → Fin S6x1024x7168.rank)
  reducesTo_S6x1024x7168_S_d0_1_2 : S6x1024x7168.ReducesTo [0, 1, 2] S_

variable [Facts]

def fn {F : FTy → Type} [FloatOps F] (main_arg0 : FVec F S6x1024x7168 .bf16) (main_arg1 : IVec S4608x3584 8) (main_arg2 : IVec S4608x224 8) : IVec S_ 1 :=
  let main_v0 : IVec S4608x224 32 := (extui 32 · natLt_8_32) main_arg2
  let main_c : IVec S_ 32 := constantI S_ 32 2147483648#32
  let main_v1 : IVec S4608 32 := (fun x v => Host.reduce IntOp.maxsi x v reducesTo_S4608x224_S4608_d1 h_S_) main_v0 main_c
  let main_c_0 : IVec S_ 32 := constantI S_ 32 2147483647#32
  let main_v2 : IVec S4608 32 := (fun x v => Host.reduce IntOp.minsi x v reducesTo_S4608x224_S4608_d1 h_S_) main_v0 main_c_0
  let main_v3 : IVec S4608 32 := subi main_v1 main_v2
  let main_c_1 : IVec S_ 32 := constantI S_ 32 139#32
  let main_v4 : IVec S4608 32 := broadcastInDim S4608 ![] bcast_S_S4608 main_c_1
  let main_v5 : IVec S4608 1 := cmpi .sle main_v3 main_v4
  let main_c_2 : IVec S_ 32 := constantI S_ 32 14#32
  let main_v6 : IVec S4608 32 := broadcastInDim S4608 ![] bcast_S_S4608 main_c_2
  let main_v7 : IVec S4608 1 := cmpi .sge main_v1 main_v6
  let main_v8 : IVec S4608 1 := andi main_v5 main_v7
  let main_c_3 : IVec S_ 1 := constantI S_ 1 1#1
  let main_v9 : IVec S_ 1 := (fun x v => Host.reduce IntOp.andi x v reducesTo_S4608_S_d0 h_S_) main_v8 main_c_3
  let main_v10 : FVec F S6x1024x7168 .bf16 := Host.absf main_arg0
  let main_v11 : FVec F S6x1024x7168 .f32 := (extf .f32 · bitsLt_bf16_f32) main_v10
  let main_cst : FVec F S_ .f32 := constant S_ .f32 0x7F7F0000#32
  let main_v12 : FVec F S6x1024x7168 .f32 := broadcastInDim S6x1024x7168 ![] bcast_S_S6x1024x7168 main_cst
  let main_v13 : IVec S6x1024x7168 1 := cmpf .ole main_v11 main_v12
  let main_c_4 : IVec S_ 1 := constantI S_ 1 1#1
  let main_v14 : IVec S_ 1 := (fun x v => Host.reduce IntOp.andi x v reducesTo_S6x1024x7168_S_d0_1_2 h_S_) main_v13 main_c_4
  let main_v15 : IVec S_ 1 := andi main_v9 main_v14
  main_v15
-- ==== Pre_normal.lean ====
abbrev S6x1024x7168 : Shape := ⟨3, ![6, 1024, 7168]⟩
abbrev S4608x3584 : Shape := ⟨2, ![4608, 3584]⟩
abbrev S4608x224 : Shape := ⟨2, ![4608, 224]⟩
abbrev S_ : Shape := ⟨0, ![]⟩

class Facts : Prop where
  natLt_8_32 : 8 < 32
  bcast_S_S4608x224 : S_.BroadcastsInDim S4608x224 (![] : Fin 0 → Fin S4608x224.rank)
  reducesTo_S4608x224_S_d0_1 : S4608x224.ReducesTo [0, 1] S_
  h_S_ : 0 < S_.numel
  bitsLt_bf16_f32 : FTy.bits .bf16 < FTy.bits .f32
  bcast_S_S6x1024x7168 : S_.BroadcastsInDim S6x1024x7168 (![] : Fin 0 → Fin S6x1024x7168.rank)
  reducesTo_S6x1024x7168_S_d0_1_2 : S6x1024x7168.ReducesTo [0, 1, 2] S_

variable [Facts]

def fn {F : FTy → Type} [FloatOps F] (main_arg0 : FVec F S6x1024x7168 .bf16) (main_arg1 : IVec S4608x3584 8) (main_arg2 : IVec S4608x224 8) : IVec S_ 1 :=
  let main_v0 : IVec S4608x224 32 := (extui 32 · natLt_8_32) main_arg2
  let main_c : IVec S_ 32 := constantI S_ 32 1#32
  let main_v1 : IVec S4608x224 32 := broadcastInDim S4608x224 ![] bcast_S_S4608x224 main_c
  let main_v2 : IVec S4608x224 1 := cmpi .sge main_v0 main_v1
  let main_c_0 : IVec S_ 32 := constantI S_ 32 254#32
  let main_v3 : IVec S4608x224 32 := broadcastInDim S4608x224 ![] bcast_S_S4608x224 main_c_0
  let main_v4 : IVec S4608x224 1 := cmpi .sle main_v0 main_v3
  let main_v5 : IVec S4608x224 1 := andi main_v2 main_v4
  let main_c_1 : IVec S_ 1 := constantI S_ 1 1#1
  let main_v6 : IVec S_ 1 := (fun x v => Host.reduce IntOp.andi x v reducesTo_S4608x224_S_d0_1 h_S_) main_v5 main_c_1
  let main_v7 : FVec F S6x1024x7168 .bf16 := Host.absf main_arg0
  let main_v8 : FVec F S6x1024x7168 .f32 := (extf .f32 · bitsLt_bf16_f32) main_v7
  let main_cst : FVec F S_ .f32 := constant S_ .f32 0x7F7F0000#32
  let main_v9 : FVec F S6x1024x7168 .f32 := broadcastInDim S6x1024x7168 ![] bcast_S_S6x1024x7168 main_cst
  let main_v10 : IVec S6x1024x7168 1 := cmpf .ole main_v8 main_v9
  let main_c_2 : IVec S_ 1 := constantI S_ 1 1#1
  let main_v11 : IVec S_ 1 := (fun x v => Host.reduce IntOp.andi x v reducesTo_S6x1024x7168_S_d0_1_2 h_S_) main_v10 main_c_2
  let main_v12 : IVec S_ 1 := andi main_v6 main_v11
  main_v12
-- ==== Kernel.lean ====
abbrev S6x1024x7168 : Shape := ⟨3, ![6, 1024, 7168]⟩
abbrev S4608x3584 : Shape := ⟨2, ![4608, 3584]⟩
abbrev S4608x224 : Shape := ⟨2, ![4608, 224]⟩
abbrev S_ : Shape := ⟨0, ![]⟩
abbrev S4608 : Shape := ⟨1, ![4608]⟩
abbrev S6144x7168 : Shape := ⟨2, ![6144, 7168]⟩
abbrev S224x4608 : Shape := ⟨2, ![224, 4608]⟩
abbrev S1x4608 : Shape := ⟨2, ![1, 4608]⟩
abbrev S7168x4608 : Shape := ⟨2, ![7168, 4608]⟩
abbrev S512x512 : Shape := ⟨2, ![512, 512]⟩
abbrev S32x512 : Shape := ⟨2, ![32, 512]⟩
abbrev S1x512 : Shape := ⟨2, ![1, 512]⟩
abbrev S1024x512 : Shape := ⟨2, ![1024, 512]⟩
abbrev S512x128 : Shape := ⟨2, ![512, 128]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S8x512 : Shape := ⟨2, ![8, 512]⟩
abbrev S8x1x512 : Shape := ⟨3, ![8, 1, 512]⟩
abbrev S8x32x512 : Shape := ⟨3, ![8, 32, 512]⟩
abbrev S6144x4608 : Shape := ⟨2, ![6144, 4608]⟩
abbrev S24x1x256 : Shape := ⟨3, ![24, 1, 256]⟩
abbrev S256x7168 : Shape := ⟨2, ![256, 7168]⟩
abbrev S256x4608 : Shape := ⟨2, ![256, 4608]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S7168x512 : Shape := ⟨2, ![7168, 512]⟩

abbrev nBuf : Space → Nat
  | .hbm => 26
  | .vmem => 18
  | .smem => 0
  | _ => 0

abbrev bufTy : (tb : Table) → Fin (tcTables nBuf tb) → BufTy
  | .hbm, ⟨0, _⟩ => ⟨S6x1024x7168, .bf16⟩
  | .hbm, ⟨1, _⟩ => ⟨S4608x3584, .i8⟩
  | .hbm, ⟨2, _⟩ => ⟨S4608x224, .i8⟩
  | .hbm, ⟨3, _⟩ => ⟨S4608x224, .i32⟩
  | .hbm, ⟨4, _⟩ => ⟨S_, .i32⟩
  | .hbm, ⟨5, _⟩ => ⟨S4608, .i32⟩
  | .hbm, ⟨6, _⟩ => ⟨S6144x7168, .bf16⟩
  | .hbm, ⟨7, _⟩ => ⟨S224x4608, .i8⟩
  | .hbm, ⟨8, _⟩ => ⟨S1x4608, .i32⟩
  | .hbm, ⟨9, _⟩ => ⟨S_, .i32⟩
  | .hbm, ⟨10, _⟩ => ⟨S1x4608, .i32⟩
  | .hbm, ⟨11, _⟩ => ⟨S1x4608, .i32⟩
  | .hbm, ⟨12, _⟩ => ⟨S7168x4608, .fp8e5m2⟩
  | .hbm, ⟨13, _⟩ => ⟨S_, .i32⟩
  | .hbm, ⟨14, _⟩ => ⟨S1x4608, .i32⟩
  | .hbm, ⟨15, _⟩ => ⟨S1x4608, .i32⟩
  | .hbm, ⟨16, _⟩ => ⟨S_, .i32⟩
  | .hbm, ⟨17, _⟩ => ⟨S1x4608, .i32⟩
  | .hbm, ⟨18, _⟩ => ⟨S1x4608, .i32⟩
  | .hbm, ⟨19, _⟩ => ⟨S_, .i32⟩
  | .hbm, ⟨20, _⟩ => ⟨S1x4608, .i32⟩
  | .hbm, ⟨21, _⟩ => ⟨S1x4608, .i32⟩
  | .hbm, ⟨22, _⟩ => ⟨S1x4608, .f32⟩
  | .hbm, ⟨23, _⟩ => ⟨S6144x4608, .bf16⟩
  | .hbm, ⟨24, _⟩ => ⟨S6144x7168, .fp8e4m3⟩
  | .hbm, ⟨25, _⟩ => ⟨S24x1x256, .f32⟩
  | .local _ .vmem, ⟨0, _⟩ => ⟨S512x512, .i8⟩
  | .local _ .vmem, ⟨1, _⟩ => ⟨S512x512, .i8⟩
  | .local _ .vmem, ⟨2, _⟩ => ⟨S32x512, .i8⟩
  | .local _ .vmem, ⟨3, _⟩ => ⟨S32x512, .i8⟩
  | .local _ .vmem, ⟨4, _⟩ => ⟨S1x512, .i32⟩
  | .local _ .vmem, ⟨5, _⟩ => ⟨S1x512, .i32⟩
  | .local _ .vmem, ⟨6, _⟩ => ⟨S1024x512, .fp8e5m2⟩
  | .local _ .vmem, ⟨7, _⟩ => ⟨S1024x512, .fp8e5m2⟩
  | .local _ .vmem, ⟨8, _⟩ => ⟨S256x7168, .bf16⟩
  | .local _ .vmem, ⟨9, _⟩ => ⟨S256x7168, .bf16⟩
  | .local _ .vmem, ⟨10, _⟩ => ⟨S7168x4608, .fp8e5m2⟩
  | .local _ .vmem, ⟨11, _⟩ => ⟨S1x4608, .f32⟩
  | .local _ .vmem, ⟨12, _⟩ => ⟨S256x4608, .bf16⟩
  | .local _ .vmem, ⟨13, _⟩ => ⟨S256x4608, .bf16⟩
  | .local _ .vmem, ⟨14, _⟩ => ⟨S256x7168, .fp8e4m3⟩
  | .local _ .vmem, ⟨15, _⟩ => ⟨S256x7168, .fp8e4m3⟩
  | .local _ .vmem, ⟨16, _⟩ => ⟨S1x1x256, .f32⟩
  | .local _ .vmem, ⟨17, _⟩ => ⟨S1x1x256, .f32⟩
  | _, _ => ⟨S6x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![9, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7168x4608 .fp8e5m2 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4608 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4608 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x7168 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S6x1024x7168 : Shape := ⟨3, ![6, 1024, 7168]⟩
abbrev S4608x3584 : Shape := ⟨2, ![4608, 3584]⟩
abbrev S4608x224 : Shape := ⟨2, ![4608, 224]⟩
abbrev S6144x7168 : Shape := ⟨2, ![6144, 7168]⟩
abbrev S6144x4608 : Shape := ⟨2, ![6144, 4608]⟩
abbrev S24x1x256 : Shape := ⟨3, ![24, 1, 256]⟩
abbrev S6144 : Shape := ⟨1, ![6144]⟩
abbrev S6144x1 : Shape := ⟨2, ![6144, 1]⟩
abbrev S1x254 : Shape := ⟨2, ![1, 254]⟩
abbrev S6144x254 : Shape := ⟨2, ![6144, 254]⟩
abbrev S4608x3584x1 : Shape := ⟨3, ![4608, 3584, 1]⟩
abbrev S4608x3584x2 : Shape := ⟨3, ![4608, 3584, 2]⟩
abbrev S4608x7168 : Shape := ⟨2, ![4608, 7168]⟩
abbrev S4608x224x32 : Shape := ⟨3, ![4608, 224, 32]⟩
abbrev S4608x224x1 : Shape := ⟨3, ![4608, 224, 1]⟩

abbrev nBuf : Space → Nat
  | .hbm => 7
  | .vmem => 6
  | .smem => 0
  | _ => 0

abbrev bufTy : (tb : Table) → Fin (tcTables nBuf tb) → BufTy
  | .hbm, ⟨0, _⟩ => ⟨S6x1024x7168, .bf16⟩
  | .hbm, ⟨1, _⟩ => ⟨S4608x3584, .i8⟩
  | .hbm, ⟨2, _⟩ => ⟨S4608x224, .i8⟩
  | .hbm, ⟨3, _⟩ => ⟨S6144x7168, .bf16⟩
  | .hbm, ⟨4, _⟩ => ⟨S6144x4608, .bf16⟩
  | .hbm, ⟨5, _⟩ => ⟨S6144x7168, .fp8e4m3⟩
  | .hbm, ⟨6, _⟩ => ⟨S24x1x256, .f32⟩
  | .local _ .vmem, ⟨0, _⟩ => ⟨S6144x7168, .bf16⟩
  | .local _ .vmem, ⟨1, _⟩ => ⟨S4608x3584, .i8⟩
  | .local _ .vmem, ⟨2, _⟩ => ⟨S4608x224, .i8⟩
  | .local _ .vmem, ⟨3, _⟩ => ⟨S6144x4608, .bf16⟩
  | .local _ .vmem, ⟨4, _⟩ => ⟨S6144x7168, .fp8e4m3⟩
  | .local _ .vmem, ⟨5, _⟩ => ⟨S24x1x256, .f32⟩
  | _, _ => ⟨S6x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x3584 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x224 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Slow.lean ====
abbrev S6x1024x7168 : Shape := ⟨3, ![6, 1024, 7168]⟩
abbrev S4608x3584 : Shape := ⟨2, ![4608, 3584]⟩
abbrev S4608x224 : Shape := ⟨2, ![4608, 224]⟩
abbrev S6144x7168 : Shape := ⟨2, ![6144, 7168]⟩
abbrev S224x4608 : Shape := ⟨2, ![224, 4608]⟩
abbrev S6144x4608 : Shape := ⟨2, ![6144, 4608]⟩
abbrev S24x1x256 : Shape := ⟨3, ![24, 1, 256]⟩
abbrev S256x7168 : Shape := ⟨2, ![256, 7168]⟩
abbrev S512x512 : Shape := ⟨2, ![512, 512]⟩
abbrev S32x512 : Shape := ⟨2, ![32, 512]⟩
abbrev S256x512 : Shape := ⟨2, ![256, 512]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S512x128 : Shape := ⟨2, ![512, 128]⟩
abbrev S128x512 : Shape := ⟨2, ![128, 512]⟩
abbrev S128x1x512 : Shape := ⟨3, ![128, 1, 512]⟩
abbrev S128x2x512 : Shape := ⟨3, ![128, 2, 512]⟩
abbrev S8x512 : Shape := ⟨2, ![8, 512]⟩
abbrev S8x1x512 : Shape := ⟨3, ![8, 1, 512]⟩
abbrev S8x32x512 : Shape := ⟨3, ![8, 32, 512]⟩
abbrev S256x256 : Shape := ⟨2, ![256, 256]⟩

abbrev nBuf : Space → Nat
  | .hbm => 8
  | .vmem => 13
  | .smem => 0
  | _ => 0

abbrev bufTy : (tb : Table) → Fin (tcTables nBuf tb) → BufTy
  | .hbm, ⟨0, _⟩ => ⟨S6x1024x7168, .bf16⟩
  | .hbm, ⟨1, _⟩ => ⟨S4608x3584, .i8⟩
  | .hbm, ⟨2, _⟩ => ⟨S4608x224, .i8⟩
  | .hbm, ⟨3, _⟩ => ⟨S6144x7168, .bf16⟩
  | .hbm, ⟨4, _⟩ => ⟨S224x4608, .i8⟩
  | .hbm, ⟨5, _⟩ => ⟨S6144x4608, .bf16⟩
  | .hbm, ⟨6, _⟩ => ⟨S6144x7168, .fp8e4m3⟩
  | .hbm, ⟨7, _⟩ => ⟨S24x1x256, .f32⟩
  | .local _ .vmem, ⟨0, _⟩ => ⟨S256x7168, .bf16⟩
  | .local _ .vmem, ⟨1, _⟩ => ⟨S256x7168, .bf16⟩
  | .local _ .vmem, ⟨2, _⟩ => ⟨S512x512, .i8⟩
  | .local _ .vmem, ⟨3, _⟩ => ⟨S512x512, .i8⟩
  | .local _ .vmem, ⟨4, _⟩ => ⟨S32x512, .i8⟩
  | .local _ .vmem, ⟨5, _⟩ => ⟨S32x512, .i8⟩
  | .local _ .vmem, ⟨6, _⟩ => ⟨S256x512, .bf16⟩
  | .local _ .vmem, ⟨7, _⟩ => ⟨S256x512, .bf16⟩
  | .local _ .vmem, ⟨8, _⟩ => ⟨S256x7168, .fp8e4m3⟩
  | .local _ .vmem, ⟨9, _⟩ => ⟨S256x7168, .fp8e4m3⟩
  | .local _ .vmem, ⟨10, _⟩ => ⟨S1x1x256, .f32⟩
  | .local _ .vmem, ⟨11, _⟩ => ⟨S1x1x256, .f32⟩
  | .local _ .vmem, ⟨12, _⟩ => ⟨S256x512, .f32⟩
  | _, _ => ⟨S6x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![24, 9, 7], ![false, false, false]⟩

def k0_off1 (i : grid0.Coords) (c0_i32_11 : BitVec 32) : Fin 2 → Nat :=
  let c0_12 : Index := 0#32
  let arg2 : BitVec 32 := BitVec.ofNat 32 (i 2).val
  let c1024_i32 : BitVec 32 := 1024#32
  let v58 : BitVec 32 := Scalar.muli arg2 c1024_i32
  let v59 : BitVec 32 := Scalar.addi v58 c0_i32_11
  let v60 : Index := Scalar.indexCast v59
  ![0, v60.toNat]
def k0_cond2 (i : grid0.Coords) : BitVec 1 :=
  let arg2 : BitVec 32 := BitVec.ofNat 32 (i 2).val
  let c6_i32_96 : BitVec 32 := 6#32
  let v275 : BitVec 1 := Scalar.cmpi .eq arg2 c6_i32_96
  let v276 : BitVec 32 := Scalar.extui v275
  let c0_i32_97 : BitVec 32 := 0#32
  let v277 : BitVec 1 := Scalar.cmpi .ne v276 c0_i32_97
  v277

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Proof.Run.lean ====
/- The ideal kernel's run with its results: the frame's launch over the two calls, the final memory read at the three
   result arrays as well. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run from zero counters ends, nothing faulting, with the arguments as launched and each result array at what the
    second call's write-backs leave in it. -/
theorem run_results : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc (Pipeline.arrRef spec1 3)) = (dat1 (V3 m ρ) c).arrAt 3 cfg1.N
      ∧ r.2.mem ((c.tc : Thread nD τ).loc (Pipeline.arrRef spec1 4)) = (dat1 (V3 m ρ) c).arrAt 4 cfg1.N
      ∧ r.2.mem ((c.tc : Thread nD τ).loc (Pipeline.arrRef spec1 5)) = (dat1 (V3 m ρ) c).arrAt 5 cfg1.N) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc (Pipeline.arrRef spec1 3) (by decide))).trans (W4_arr m ρ c 3),
       (h c _ (mem_uc (Pipeline.arrRef spec1 4) (by decide))).trans (W4_arr m ρ c 4),
       (h c _ (mem_uc (Pipeline.arrRef spec1 5) (by decide))).trans (W4_arr m ρ c 5)⟩)

end Cert.KernelIdeal.Gen

end
-- ==== Proof.Exponent.lean ====
/- Powers of two written as the bits of a 32-bit float, and the exponent of a nonnegative number found two ways:
   by the kernel's eight comparisons against such powers, and by counting the powers of two that the number reaches. -/
module

public import Idealize.ShloMosaic.Lib.Pointwise

@[expose] public section

noncomputable section

namespace Cert.Mx

open Idealize.ShloMosaic

/-- The 32-bit float whose exponent field is `x` and whose other bits are zero, as an extended real. -/
def field (x : BitVec 32) : EReal := Ideal.ieee 8 23 (x <<< (23#32 : BitVec 32))

/-- The value of exponent field `n`. -/
def fieldVal (n : ℕ) : EReal := if n = 255 then ⊤ else if n = 0 then 0 else (((2 : ℝ) ^ ((n : ℤ) - 127) : ℝ) : EReal)

/-- A field below 256 denotes its power of two, zero at 0 and infinity at 255. -/
theorem field_ofNat (n : ℕ) (hn : n < 256) : field (BitVec.ofNat 32 n) = fieldVal n := by
  have hs : ((BitVec.ofNat 32 n) <<< (23#32 : BitVec 32)).toNat = n * 2 ^ 23 := by
    simp [BitVec.toNat_shiftLeft, Nat.shiftLeft_eq]; omega
  have hx : (((BitVec.ofNat 32 n) <<< (23#32 : BitVec 32)).extractLsb' 23 8).toNat = n := by
    rw [BitVec.extractLsb'_toNat, hs, Nat.shiftRight_eq_div_pow]; omega
  have hf : (((BitVec.ofNat 32 n) <<< (23#32 : BitVec 32)).extractLsb' 0 23).toNat = 0 := by
    rw [BitVec.extractLsb'_toNat, hs, Nat.shiftRight_eq_div_pow]; omega
  have hg : (((BitVec.ofNat 32 n) <<< (23#32 : BitVec 32)).extractLsb' (8 + 23) 1 == 1#1) = false := by
    rw [beq_eq_false_iff_ne]; intro h
    have := congrArg BitVec.toNat h
    rw [BitVec.extractLsb'_toNat, hs, Nat.shiftRight_eq_div_pow] at this
    simp at this; omega
  unfold field Ideal.ieee fieldVal
  simp only [hx, hf, hg]
  by_cases h1 : n = 255
  · rw [if_pos (by omega), if_pos h1, if_pos trivial, if_neg Bool.false_ne_true]
  · rw [if_neg (by omega), if_neg h1]
    by_cases h2 : n = 0
    · rw [if_pos h2, if_pos h2]; simp
    · rw [if_neg h2, if_neg h2]
      rw [EReal.coe_eq_coe_iff, show ((n : ℤ) - (2 ^ (8 - 1) - 1) - ((23 : ℕ) : ℤ)) = ((n : ℤ) - 127) - 23 by norm_num,
        zpow_sub₀ (by norm_num : (2 : ℝ) ≠ 0), if_neg Bool.false_ne_true]
      generalize (2 : ℝ) ^ ((n : ℤ) - 127) = y
      norm_num
      ring

/-- The power of two with exponent `x`, built by shifting the biased exponent into place. -/
def pow2 (x : BitVec 32) : EReal := field (x + 127#32)

/-- In the range of the format's normal numbers, `pow2` is the power of two. -/
theorem pow2_ofInt (z : ℤ) (h0 : -126 ≤ z) (h1 : z ≤ 127) : pow2 (BitVec.ofInt 32 z) = (((2 : ℝ) ^ z : ℝ) : EReal) := by
  have h : BitVec.ofInt 32 z + 127#32 = BitVec.ofNat 32 (z + 127).toNat := by
    rw [show (127#32 : BitVec 32) = BitVec.ofInt 32 127 from rfl, ← BitVec.ofInt_add, ← BitVec.ofInt_natCast,
      Int.toNat_of_nonneg (by omega)]
  rw [pow2, h, field_ofNat _ (by omega), fieldVal, if_neg (by omega), if_neg (by omega)]
  congr 2; omega

/-- One comparison of the search: keep `e` if the number is below the power at `e + b`, else go on from `e + b`. -/
def step (t : EReal) (e b : BitVec 32) : BitVec 32 := if t < field (e + b) then e else e + b

/-- The kernel's search for the exponent field of a nonnegative number. -/
def search (t : EReal) : BitVec 32 :=
  step t (step t (step t (step t (step t (step t (step t (step t 0#32 128#32) 64#32) 32#32) 16#32) 8#32) 4#32) 2#32) 1#32

/-- What the search keeps true: the power at `n` is reached and the one at `n + w` is not, unless that is past the end. -/
def Found (t : EReal) (w : ℕ) (e : BitVec 32) : Prop :=
  ∃ n : ℕ, e = BitVec.ofNat 32 n ∧ n + w ≤ 256 ∧ fieldVal n ≤ t ∧ (n + w = 256 ∨ t < fieldVal (n + w))

/-- One step halves the width. -/
theorem Found.step {t : EReal} {w : ℕ} {e : BitVec 32} (h : Found t (2 * w) e) (hw : 0 < w) :
    Found t w (step t e (BitVec.ofNat 32 w)) := by
  obtain ⟨n, rfl, hn, hle, hlt⟩ := h
  have hadd : BitVec.ofNat 32 n + BitVec.ofNat 32 w = BitVec.ofNat 32 (n + w) := by
    rw [BitVec.ofNat_add]
  unfold Mx.step
  rw [hadd, field_ofNat _ (by omega)]
  split_ifs with hc
  · exact ⟨n, rfl, by omega, hle, Or.inr hc⟩
  · refine ⟨n + w, rfl, by omega, not_lt.1 hc, ?_⟩
    rw [show n + w + w = n + 2 * w by ring]
    exact hlt

/-- The search ends at the field whose power is reached and the next is not. -/
theorem search_found (t : EReal) (h : 0 ≤ t) : Found t 1 (search t) := by
  have h0 : Found t 256 0#32 := ⟨0, rfl, by omega, by simpa [fieldVal] using h, Or.inl rfl⟩
  exact ((((((((h0.step (w := 128) (by omega)).step (w := 64) (by omega)).step (w := 32) (by omega)).step (w := 16)
    (by omega)).step (w := 8) (by omega)).step (w := 4) (by omega)).step (w := 2) (by omega)).step (w := 1) (by omega))

/-- The powers of the fields grow. -/
theorem fieldVal_strictMono {a b : ℕ} (h : a < b) (hb : b < 256) : fieldVal a < fieldVal b := by
  unfold fieldVal
  rw [if_neg (by omega)]
  rcases Nat.eq_zero_or_pos a with rfl | ha
  · rw [if_pos rfl]
    split_ifs with h1 h2
    · simp
    · omega
    · exact_mod_cast (by positivity : (0 : ℝ) < 2 ^ ((b : ℤ) - 127))
  · rw [if_neg (by omega)]
    split_ifs with h1 h2
    · exact EReal.coe_lt_top _
    · omega
    · rw [EReal.coe_lt_coe_iff]
      exact zpow_lt_zpow_right₀ (by norm_num) (by omega)

/-- How many of the powers `2^-126, …, 2^127` a number reaches. -/
def count (t : EReal) : EReal :=
  ∑ k : Fin 254, if (((2 : ℝ) ^ ((k.val : ℤ) - 126) : ℝ) : EReal) ≤ t then (1 : EReal) else 0

/-- The exponent by counting: the least `e ≥ -126` with `t < 2^e`, and 0 for zero. -/
def expo (t : EReal) : EReal := if t = 0 then 0 else count t - ((126 : ℝ) : EReal)

/-- A sum of a zero-one condition that holds exactly below `n` is `n`. -/
theorem count_eq (t : EReal) (n : ℕ) (hn : n ≤ 254) (h : fieldVal n ≤ t) (h' : n = 254 ∨ t < fieldVal (n + 1)) :
    count t = ((n : ℝ) : EReal) := by
  have hk : ∀ k : Fin 254, (((2 : ℝ) ^ ((k.val : ℤ) - 126) : ℝ) : EReal) = fieldVal (k.val + 1) := fun k => by
    have := k.isLt
    rw [fieldVal, if_neg (by omega), if_neg (by omega)]
    congr 2; push_cast; ring
  have hiff : ∀ k : Fin 254, ((((2 : ℝ) ^ ((k.val : ℤ) - 126) : ℝ) : EReal) ≤ t) ↔ k.val < n := fun k => by
    have := k.isLt
    rw [hk]
    constructor
    · intro hle
      by_contra hc
      have h'' := h'.resolve_left (by omega)
      have : fieldVal (n + 1) ≤ fieldVal (k.val + 1) := by
        rcases (show n + 1 ≤ k.val + 1 by omega).eq_or_lt with he | hl
        · rw [he]
        · exact (fieldVal_strictMono hl (by omega)).le
      exact absurd (this.trans hle) (not_le.2 h'')
    · intro hlt
      refine le_trans ?_ h
      rcases (show k.val + 1 ≤ n by omega).eq_or_lt with he | hl
      · rw [he]
      · exact (fieldVal_strictMono hl (by omega)).le
  unfold count
  simp only [hiff]
  rw [Finset.sum_ite, Finset.sum_const_zero, add_zero, Finset.sum_const, nsmul_one]
  have : (Finset.univ.filter fun k : Fin 254 => k.val < n).card = n := by
    rw [Fin.card_filter_val_lt]; omega
  rw [this]; norm_cast

/-- The kernel's exponent word of a number: the searched field less 126, and zero for zero. -/
def expoWord (t : EReal) : BitVec 32 := if t = 0 then 0#32 else search t - 126#32

/-- Both exponents are the same integer, in range, for a nonnegative number below `2^126`. -/
theorem expo_eq (t : EReal) (h : 0 ≤ t) (h' : t < (((2 : ℝ) ^ (126 : ℤ) : ℝ) : EReal)) :
    ∃ z : ℤ, -126 ≤ z ∧ z ≤ 126 ∧ expoWord t = BitVec.ofInt 32 z ∧ expo t = ((z : ℝ) : EReal) := by
  by_cases h0 : t = 0
  · exact ⟨0, by omega, by omega, by rw [expoWord, if_pos h0]; rfl, by rw [expo, if_pos h0]; simp⟩
  obtain ⟨n, hn, hn', hle, hlt⟩ := search_found t h
  have hn2 : n ≤ 252 := by
    by_contra hc
    have : fieldVal 253 ≤ fieldVal n := by
      rcases (show 253 ≤ n by omega).eq_or_lt with he | hl
      · rw [he]
      · exact (fieldVal_strictMono hl (by omega)).le
    have h3 : fieldVal 253 = (((2 : ℝ) ^ (126 : ℤ) : ℝ) : EReal) := by
      rw [fieldVal, if_neg (by omega), if_neg (by omega)]; norm_num
    exact absurd (h3 ▸ this.trans hle) (not_le.2 h')
  refine ⟨(n : ℤ) - 126, by omega, by omega, ?_, ?_⟩
  · rw [expoWord, if_neg h0, hn]
    rw [show (126#32 : BitVec 32) = BitVec.ofInt 32 126 from rfl, ← BitVec.ofInt_natCast, BitVec.sub_eq_add_neg,
      ← BitVec.ofInt_neg, ← BitVec.ofInt_add]
    congr 1
  · rw [expo, if_neg h0, count_eq t n (by omega) hle (Or.inr (hlt.resolve_left (by omega)))]
    push_cast
    norm_cast

/-- `2^z` at an integer, as the extended reals' base-two exponential gives it. -/
theorem exp2_int (z : ℤ) : Ideal.exp2 ((z : ℝ) : EReal) = (((2 : ℝ) ^ z : ℝ) : EReal) := by
  show ((Real.rpow 2 (z : ℝ) : ℝ) : EReal) = _
  rw [← Real.rpow_intCast]; rfl

/-- The scale the kernel builds from bits is the reference's power of two. -/
theorem pow2_expoWord (t : EReal) (h : 0 ≤ t) (h' : t < (((2 : ℝ) ^ (126 : ℤ) : ℝ) : EReal)) :
    pow2 (expoWord t) = Ideal.exp2 (expo t) := by
  obtain ⟨z, h0, h1, hw, he⟩ := expo_eq t h h'
  rw [hw, he, exp2_int, pow2_ofInt z h0 (by omega)]

/-- … and so is the factor the activations are multiplied by. -/
theorem pow2_neg_expoWord (t : EReal) (h : 0 ≤ t) (h' : t < (((2 : ℝ) ^ (126 : ℤ) : ℝ) : EReal)) :
    pow2 (0#32 - expoWord t) = Ideal.exp2 (0 - expo t) := by
  obtain ⟨z, h0, h1, hw, he⟩ := expo_eq t h h'
  have : (0#32 - BitVec.ofInt 32 z) = BitVec.ofInt 32 (-z) := by
    apply BitVec.eq_of_toInt_eq
    simp [BitVec.toInt_neg, BitVec.toInt_ofInt]
  have h2 : (0 : EReal) - ((z : ℝ) : EReal) = (((-z : ℤ) : ℝ) : EReal) := by push_cast; simp
  rw [hw, he, this, h2, exp2_int, pow2_ofInt (-z) (by omega) (by omega)]

end Cert.Mx

end
-- ==== Proof.Quant.lean ====
/- The quantiser of the activations as plain functions of one row: the largest magnitude, the exponent, the code. -/
module

public import proofs.«01_k».proof.Proof.Exponent
public import Idealize.ShloMosaic.Lib.IdealHost

@[expose] public section

noncomputable section

namespace Cert.Mx

open Idealize.ShloMosaic

/-- The largest magnitude of a row of 7168 activations. -/
def amax (X : Fin 7168 → EReal) : EReal := Finset.univ.fold max ⊥ fun k => max (X k) (-(X k))

/-- The largest magnitude divided by the largest code: times the float nearest `1/448`. -/
def scaled (X : Fin 7168 → EReal) : EReal := amax X * Ideal.ofBits .f32 0x3B124925#32

/-- The exponent of a row: the least `e ≥ -126` with `scaled X < 2^e`, and zero for a row of zeros. -/
def rowExp (X : Fin 7168 → EReal) : EReal := if amax X = 0 then 0 else count (scaled X) - ((126 : ℝ) : EReal)

/-- The code of an element under an exponent, clipped to the largest code. -/
def code (x e : EReal) : EReal :=
  min (Ideal.ofBits .f32 0x43E00000#32) (max (Ideal.ofBits .f32 0xC3E00000#32) (x * Ideal.exp2 (0 - e)))

/-- Minus infinity in both formats. -/
theorem ofBits_bot_bf16 : Ideal.ofBits .bf16 0xFF80#16 = ⊥ := by simp [Ideal.ofBits, Ideal.ieee]

/-- Minus infinity in the 32-bit format. -/
theorem ofBits_bot_f32 : Ideal.ofBits .f32 0xFF800000#32 = ⊥ := by simp [Ideal.ofBits, Ideal.ieee]

/-- 126 as a 32-bit float. -/
theorem ofBits_126 : Ideal.ofBits .f32 0x42FC0000#32 = ((126 : ℝ) : EReal) := by
  simp [Ideal.ofBits, Ideal.ieee]
  norm_cast
  norm_num

/-- The float nearest `1/448`, exactly. -/
theorem ofBits_inv448 : Ideal.ofBits .f32 0x3B124925#32 = ((9586981 / 2 ^ 32 : ℝ) : EReal) := by
  simp [Ideal.ofBits, Ideal.ieee]
  norm_cast

/-- The largest finite 16-bit float, exactly. -/
theorem ofBits_top_bf16 : Ideal.ofBits .f32 0x7F7F0000#32 = ((255 * 2 ^ 120 : ℝ) : EReal) := by
  simp [Ideal.ofBits, Ideal.ieee]
  norm_cast

theorem amax_nonneg (X : Fin 7168 → EReal) : 0 ≤ amax X := by
  have h : ∀ k, max (X k) (-(X k)) ≤ amax X := fun k => by
    unfold amax; rw [Finset.le_fold_max]; exact Or.inr ⟨k, Finset.mem_univ _, le_rfl⟩
  refine le_trans ?_ (h 0)
  rcases le_total 0 (X 0) with h0 | h0
  · exact le_max_of_le_left h0
  · exact le_max_of_le_right (by simpa using EReal.neg_le_neg_iff.2 h0)

theorem scaled_nonneg (X : Fin 7168 → EReal) : 0 ≤ scaled X := by
  unfold scaled; rw [ofBits_inv448]
  exact mul_nonneg (amax_nonneg X) (by exact_mod_cast (by positivity : (0 : ℝ) ≤ 9586981 / 2 ^ 32))

/-- A row of finite 16-bit floats scales to less than `2^126`. -/
theorem scaled_lt (X : Fin 7168 → EReal) (h : ∀ k, max (X k) (-(X k)) ≤ Ideal.ofBits .f32 0x7F7F0000#32) :
    scaled X < (((2 : ℝ) ^ (126 : ℤ) : ℝ) : EReal) := by
  have ha : amax X ≤ ((255 * 2 ^ 120 : ℝ) : EReal) := by
    unfold amax; rw [Finset.fold_max_le]
    exact ⟨bot_le, fun k _ => (ofBits_top_bf16 ▸ h k)⟩
  have : scaled X ≤ ((255 * 2 ^ 120 : ℝ) : EReal) * ((9586981 / 2 ^ 32 : ℝ) : EReal) := by
    unfold scaled; rw [ofBits_inv448]
    exact mul_le_mul_of_nonneg_right ha (by exact_mod_cast (by positivity : (0 : ℝ) ≤ 9586981 / 2 ^ 32))
  refine lt_of_le_of_lt this ?_
  rw [← EReal.coe_mul, EReal.coe_lt_coe_iff]
  norm_num

/-- The row's exponent is the exponent of its scaled magnitude. -/
theorem rowExp_eq (X : Fin 7168 → EReal) : rowExp X = expo (scaled X) := by
  have h : scaled X = 0 ↔ amax X = 0 := by
    unfold scaled; rw [ofBits_inv448, mul_eq_zero]
    constructor
    · rintro (h | h)
      · exact h
      · exact absurd h (by rw [EReal.coe_eq_zero]; norm_num)
    · exact Or.inl
  unfold rowExp expo
  simp only [h]

/-- A row the quantiser treats as the kernel does: its scaled magnitude is in range. -/
def Good (X : Fin 7168 → EReal) : Prop := scaled X < (((2 : ℝ) ^ (126 : ℤ) : ℝ) : EReal)

/-- The kernel's scale of a good row. -/
theorem pow2_row (X : Fin 7168 → EReal) (h : Good X) : pow2 (expoWord (scaled X)) = Ideal.exp2 (rowExp X) := by
  rw [rowExp_eq, pow2_expoWord _ (scaled_nonneg X) h]

/-- The kernel's factor for a good row. -/
theorem pow2_neg_row (X : Fin 7168 → EReal) (h : Good X) :
    pow2 (0#32 - expoWord (scaled X)) = Ideal.exp2 (0 - rowExp X) := by
  rw [rowExp_eq, pow2_neg_expoWord _ (scaled_nonneg X) h]

end Cert.Mx

end
-- ==== Proof.Rows.lean ====
/- Reductions along the rows of a matrix of any size, at a row. -/
module

public import Idealize.ShloMosaic.Lib.Pointwise

@[expose] public section

noncomputable section

namespace Cert.Mx

open Idealize.ShloMosaic

variable {n m : ℕ} {φ : FTy}

/-- The largest element of a row. -/
theorem rowMax_apply (x : FVec Ideal (⟨2, ![n, m]⟩ : Shape) φ) (acc : BitVec φ.bits)
    (h : (⟨2, ![n, m]⟩ : Shape).Reduces [1] (⟨1, ![n]⟩ : Shape)) (hφ : FKind.Formats φ) (hacc : acc = FKind.maximumf.neutral φ hφ)
    (r : Fin n) :
    multiReduction .maximumf [1] (⟨1, ![n]⟩ : Shape) x acc h hφ hacc (ix1 r)
      = Finset.univ.fold max (Ideal.ofBits φ acc) fun k : Fin m => x (ix2 r k) := by
  rw [multiReduction_maximumf_eq_fold]
  exact h.fold_fiber_r2_a1 (ix1 r) max _ x

/-- The sum of a row. -/
theorem rowSum_apply (x : FVec Ideal (⟨2, ![n, m]⟩ : Shape) φ) (acc : BitVec φ.bits)
    (h : (⟨2, ![n, m]⟩ : Shape).Reduces [1] (⟨1, ![n]⟩ : Shape)) (hφ : FKind.Formats φ) (hacc : acc = FKind.add.neutral φ hφ)
    (r : Fin n) :
    multiReduction .add [1] (⟨1, ![n]⟩ : Shape) x acc h hφ hacc (ix1 r) = ∑ k : Fin m, x (ix2 r k) :=
  Ideal.reduceAdd_r2_a1 h x (ix1 r)

/-- A vector of 256 read as a column. -/
theorem col256_apply {α : Type} (v : (⟨1, ![256]⟩ : Shape).Idx → α) (h : (⟨1, ![256]⟩ : Shape).ShapeCasts (⟨2, ![256, 1]⟩ : Shape))
    (r : Fin 256) : shapeCast (⟨2, ![256, 1]⟩ : Shape) v h (ix2 r 0) = v (ix1 r) := by
  pointwise

/-- A vector of 6144 read as a column. -/
theorem col6144_apply {α : Type} (v : (⟨1, ![6144]⟩ : Shape).Idx → α) (h : (⟨1, ![6144]⟩ : Shape).ShapeCasts (⟨2, ![6144, 1]⟩ : Shape))
    (r : Fin 6144) : shapeCast (⟨2, ![6144, 1]⟩ : Shape) v h (ix2 r 0) = v (ix1 r) := by
  pointwise

/-- The ideal exponential. -/
theorem exp2_ideal (φ : FTy) (y : Ideal φ) : FloatOps.exp2 y = Ideal.exp2 y := rfl

/-- The ideal magnitude. -/
theorem absf_ideal (φ : FTy) (y : Ideal φ) : FloatOps.absf y = max y (-y) := rfl

/-- The ideal conversion of a word. -/
theorem sitofp_ideal (φ : FTy) (y : BitVec 32) : (FloatOps.sitofp φ y : Ideal φ) = ((y.toInt : ℝ) : EReal) := rfl

end Cert.Mx

end
-- ==== Proof.FastPayload.lean ====
/- The payloads of the kernel's second call, quantise and multiply, at an index, as the plain functions of Exponent.lean and Quant.lean. -/
module

public import proofs.«01_k».proof.Proof.Quant
public import proofs.«01_k».proof.Proof.Rows
public import proofs.«01_k».proof.Proof.Gen.KernelIdeal.Skeleton

@[expose] public section

set_option maxRecDepth 16384
set_option maxHeartbeats 20000

noncomputable section

namespace Cert.Mx

open Idealize.ShloMosaic Cert.KernelIdeal

/-- One step of the search on a whole column, as the kernel writes it. -/
def vstep (t : FVec Ideal S256x1 .f32) (e : IVec S256x1 32) (b : BitVec 32) : IVec S256x1 32 :=
  select (cmpf .olt t (bitcastToFloat .f32 (shli (addi e (broadcast S256x1 b)) (broadcast S256x1 23#32)))) e
    (addi e (broadcast S256x1 b))

/-- The step at a row. -/
theorem vstep_apply (t : FVec Ideal S256x1 .f32) (e : IVec S256x1 32) (b : BitVec 32) (j : S256x1.Idx) :
    vstep t e b j = step (t j) (e j) b := by
  have h : vstep t e b j = Scalar.select (BitVec.ofBool (decide (t j < field (e j + b)))) (e j) (e j + b) := rfl
  rw [h, step, Scalar.select]
  by_cases hc : t j < field (e j + b) <;> simp [hc]

/-- The exponent words, as the kernel computes them from the scaled magnitudes. -/
def words (v0 : Vec Ideal S256x7168 .bf16) : IVec S256x1 32 :=
  Gen.k1_pay6 (Gen.k1_pay3 v0) (Gen.k1_pay4 v0) (Gen.k1_pay5 v0) 16#32

/-- The payloads up to the words are eight steps, a shift by 126, and the zero row's exception. -/
theorem words_eq (v0 : Vec Ideal S256x7168 .bf16) (t : FVec Ideal S256x1 .f32) (ht : Gen.k1_pay3 v0 = t) :
    words v0 = select (cmpf .oeq t (broadcast S256x1 (Scalar.ofBits .f32 0x00000000#32))) (broadcast S256x1 0#32)
      (subi (vstep t (vstep t (vstep t (vstep t (vstep t (vstep t (vstep t (vstep t (broadcast S256x1 0#32) 128#32) 64#32) 32#32)
        16#32) 8#32) 4#32) 2#32) 1#32) (broadcast S256x1 126#32)) := by
  subst ht; rfl

/-- The largest magnitude of each row, a column. -/
def fastMax (v0 : Vec Ideal S256x7168 .bf16) : FVec Ideal S256x1 .bf16 :=
  shapeCast S256x1 (multiReduction .maximumf [1] S256 (absf v0) 0xFF80#16 Facts₀.reduces_S256x7168_S256 (.inr rfl) rfl)
    Facts₀.shapeCasts_S256_S256x1

theorem fastMax_apply (v0 : Vec Ideal S256x7168 .bf16) (r : Fin 256) : fastMax v0 (ix2 r 0) = amax fun k => v0 (ix2 r k) := by
  refine (col256_apply _ _ r).trans ((rowMax_apply (absf v0) _ _ _ rfl r).trans ?_)
  refine (congrArg (fun z => Finset.fold max z (fun k => absf v0 (ix2 r k)) Finset.univ) ofBits_bot_bf16).trans ?_
  simp only [absf_apply, absf_ideal, amax]

/-- Reading a block in its own shape leaves it. -/
theorem pay_same (v0 : Vec Ideal S256x7168 .bf16) : Gen.k1_pay2 v0 = v0 := by
  unfold Gen.k1_pay2
  exact shapeCast_self _ _

theorem fast_pay3' (v0 : Vec Ideal S256x7168 .bf16) : Gen.k1_pay3 v0
    = mulf (extf .f32 (fastMax (Gen.k1_pay2 v0)) Facts₀.bitsLt_bf16_f32) (broadcast S256x1 (Scalar.ofBits .f32 0x3B124925#32)) := rfl

theorem fast_pay3 (v0 : Vec Ideal S256x7168 .bf16) : Gen.k1_pay3 v0
    = mulf (extf .f32 (fastMax v0) Facts₀.bitsLt_bf16_f32) (broadcast S256x1 (Scalar.ofBits .f32 0x3B124925#32)) := by
  rw [fast_pay3', pay_same]

/-- A column times a constant at a row. -/
theorem col_times (a : FVec Ideal S256x1 .bf16) (h : FTy.bits .bf16 < FTy.bits .f32) (c : Ideal .f32) (j : S256x1.Idx) :
    mulf (extf .f32 a h) (broadcast S256x1 c) j = a j * c := rfl

/-- The scaled magnitude of a row. -/
theorem fast_t (v0 : Vec Ideal S256x7168 .bf16) (r : Fin 256) :
    Gen.k1_pay3 v0 (ix2 r 0) = scaled fun k => v0 (ix2 r k) := by
  rw [fast_pay3, scaled, ← fastMax_apply]
  exact col_times _ _ _ _

/-- The zero row's exception at a row. -/
theorem fast_sel (t : FVec Ideal S256x1 .f32) (y : IVec S256x1 32) (j : S256x1.Idx) :
    select (cmpf .oeq t (broadcast S256x1 (Scalar.ofBits .f32 0x00000000#32))) (broadcast S256x1 0#32)
      (subi y (broadcast S256x1 126#32)) j = if t j = 0 then 0#32 else y j - 126#32 := by
  pointwise
  rfl

/-- The search and the exception at a row. -/
theorem words_col (t : FVec Ideal S256x1 .f32) (j : S256x1.Idx) :
    select (cmpf .oeq t (broadcast S256x1 (Scalar.ofBits .f32 0x00000000#32))) (broadcast S256x1 0#32)
      (subi (vstep t (vstep t (vstep t (vstep t (vstep t (vstep t (vstep t (vstep t (broadcast S256x1 0#32) 128#32) 64#32) 32#32)
        16#32) 8#32) 4#32) 2#32) 1#32) (broadcast S256x1 126#32)) j = expoWord (t j) := by
  rw [fast_sel, expoWord, search]
  simp only [vstep_apply, ValueIdx.broadcast_apply]

/-- The exponent word of a row. -/
theorem words_apply (v0 : Vec Ideal S256x7168 .bf16) (r : Fin 256) :
    words v0 (ix2 r 0) = expoWord (scaled fun k => v0 (ix2 r k)) := by
  rw [words_eq v0 _ rfl, words_col, fast_t]

/-- The factor a row is multiplied by, and the scale, are the words' powers of two. -/
theorem fast_scale (v86 : IVec S256x1 32) (r : Fin 256) :
    Gen.k1_pay8 (F := Ideal) v86 (ix2 r 0) = pow2 (v86 (ix2 r 0)) := rfl

/-- The scale as stored, a row. -/
theorem fast_scale_row (v86 : IVec S256x1 32) (l : Fin 256) :
    Gen.k1_pay9 (F := Ideal) v86 (ix3 0 0 l) = Gen.k1_pay8 (F := Ideal) v86 (ix2 l 0) := by
  pointwise [Gen.k1_pay9]

/-- The code of an element. -/
theorem fast_code (v0 : Vec Ideal S256x7168 .bf16) (v86 : IVec S256x1 32) (r : Fin 256) (l : Fin 7168) :
    Gen.k1_pay7 (F := Ideal) v0 v86 (ix2 r l)
      = min (Ideal.ofBits .f32 0x43E00000#32) (max (Ideal.ofBits .f32 0xC3E00000#32)
        (v0 (ix2 r l) * pow2 (0#32 - v86 (ix2 r 0)))) := by
  pointwise [Gen.k1_pay7]
  rfl

/-- A row times a column, scaled by the column's and the row's powers of two: what each of the nine stores writes. -/
def chunk (s : FVec Ideal S256x1 .f32) (a : Vec Ideal S256x7168 .fp8e4m3) (w : Vec Ideal S7168x512 .fp8e5m2)
    (v : Vec Ideal S1x512 .f32) (r : Fin 256) (l : Fin 512) : EReal :=
  (∑ k : Fin 7168, a (ix2 r k) * w (ix2 k l)) * v (ix2 0 l) * s (ix2 r 0)

section
variable (s : FVec Ideal S256x1 .f32) (a : Vec Ideal S256x7168 .fp8e4m3) (w : Vec Ideal S7168x512 .fp8e5m2)
    (v : Vec Ideal S1x512 .f32) (r : Fin 256) (l : Fin 512)

theorem pay11 : Gen.k1_pay11 s a w v (ix2 r l) = chunk s a w v r l := by pointwise [Gen.k1_pay11, chunk]

/-- The other chunks are the same function. -/
theorem pay12 : Gen.k1_pay12 s a w v = Gen.k1_pay11 s a w v := rfl
theorem pay14 : Gen.k1_pay14 s (Gen.k1_pay13 a w) v = Gen.k1_pay11 s a w v := rfl
theorem pay15 : Gen.k1_pay15 s a w v = Gen.k1_pay11 s a w v := rfl
theorem pay16 : Gen.k1_pay16 s a w v = Gen.k1_pay11 s a w v := rfl
theorem pay17 : Gen.k1_pay17 s a w v = Gen.k1_pay11 s a w v := rfl
theorem pay18 : Gen.k1_pay18 s a w v = Gen.k1_pay11 s a w v := rfl
theorem pay1 : Gen.k1_pay1 s (Gen.k1_pay19 a w) (Gen.k1_pay20 v) = Gen.k1_pay11 s a w v := rfl
theorem pay10 (v86 : IVec S256x1 32) :
    Gen.k1_pay10 v86 a w v = Gen.k1_pay11 (Gen.k1_pay8 (F := Ideal) v86) a w v := rfl
end

end Cert.Mx

end
-- ==== Proof.FastBlock.lean ====
/- What one grid point of the second call leaves in its three output blocks, read from the pieces its stores wrote. -/
module

public import proofs.«01_k».proof.Proof.Gen.KernelIdeal.Frame
public import proofs.«01_k».proof.Proof.FastPayload
public import Idealize.ShloMosaic.Lib.WholeRead

@[expose] public section

set_option maxRecDepth 16384

noncomputable section

namespace Cert.Mx

open Cert.KernelIdeal Cert.KernelIdeal.Gen Idealize.ShloMosaic Idealize.ShloMosaic.TcCoe Idealize.SL.Sem

variable (c : Dev nD) (i : grid1.Coords) (arg1 : Memref sig .tc .vmem S256x7168 .bf16) (harg1 : arg1.IsWhole) (arg2 : Memref sig .tc .vmem S7168x4608 .fp8e5m2) (harg2 : arg2.IsWhole) (arg3 : Memref sig .tc .vmem S1x4608 .f32) (harg3 : arg3.IsWhole) (arg4 : Memref sig .tc .vmem S256x4608 .bf16) (harg4 : arg4.IsWhole) (arg5 : Memref sig .tc .vmem S256x7168 .fp8e4m3) (harg5 : arg5.IsWhole) (arg6 : Memref sig .tc .vmem S1x1x256 .f32) (harg6 : arg6.IsWhole)
    (x0 : Vec Ideal S256x7168 .bf16) (x1 : Vec Ideal S7168x4608 .fp8e5m2) (x2 : Vec Ideal S1x4608 .f32)

/-- Two zero offsets, as a function. -/
theorem zeros2 : (![0, 0] : Fin 2 → ℕ) = fun _ => 0 := by funext a; fin_cases a <;> rfl

/-- Three zero offsets, as a function. -/
theorem zeros3 : (![0, 0, 0] : Fin 3 → ℕ) = fun _ => 0 := by funext a; fin_cases a <;> rfl

/-- Loading the whole block of activations reads it. -/
theorem load_x0 : kernelRun1_A.sl.r c arg1 harg1 x0 = x0 := by
  unfold kernelRun1_A.sl.r
  rw [pay_same]
  refine (View.readAt_eq_ld arg1.view _ _).trans ?_
  rw [harg1.read_unread]
  exact View.ld_unit_zero zeros2 _ x0

/-- The row block's codes. -/
def blockCodes : Vec Ideal S256x7168 .fp8e4m3 := Gen.k1_pay7 (F := Ideal) x0 (words x0)

/-- The exponent words the body computes. -/
theorem r4_eq : kernelRun1_A.sl.r_4 c arg1 harg1 x0 = words x0 := by
  have h : kernelRun1_A.sl.r_4 c arg1 harg1 x0 = words (View.readAt (Elt Ideal) arg1.view
      (Rect.unit (s := S256x7168) ![0, 0] S256x7168.size inb_S256x7168_S256x7168_0_0).toLoadRect (harg1.unread x0)) := rfl
  rw [h]
  refine congrArg words ((View.readAt_eq_ld arg1.view _ _).trans ?_)
  rw [harg1.read_unread]
  exact View.ld_unit_zero zeros2 _ x0

/-- The scales the body computes. -/
theorem r5_eq : kernelRun1_A.sl.r_5 c arg1 harg1 x0 = Gen.k1_pay8 (F := Ideal) (words x0) := by
  unfold kernelRun1_A.sl.r_5
  rw [r4_eq]

/-- The store of the codes. -/
theorem H4_eq : kernelRun1_A.sl.H4_1 c arg1 harg1 x0
    = [⟨Rect.unit ![0, 0] S256x7168.size inb_S256x7168_S256x7168_0_0, blockCodes x0⟩] := by
  unfold kernelRun1_A.sl.H4_1
  rw [r4_eq, load_x0]
  rfl

/-- The codes loaded back. -/
theorem v114_eq : kernelRun1_A.sl.v114 c arg1 harg1 arg5 x0 = blockCodes x0 := by
  unfold kernelRun1_A.sl.v114
  rw [H4_eq]
  refine (View.readCov_eq_canon' _ _ _).trans ?_
  rw [View.canon_unit_zero zeros2]
  exact View.ld_unit_zero zeros2 _ _

/-- A load of 512 columns of the weights. -/
theorem load_x1 (o : ℕ) (ho : o + 512 ≤ 4608) (inb : ∀ a, (![0, o] : Fin 2 → ℕ) a + (![7168, 512] : Fin 2 → ℕ) a ≤ S7168x4608.size a)
    (k : Fin 7168) (l : Fin 512) :
    View.readAt (Elt Ideal) arg2.view (Rect.unit (s := S7168x4608) ![0, o] ![7168, 512] inb).toLoadRect (harg2.unread x1) (ix2 k l)
      = x1 (ix2 k ⟨o + l.val, by omega⟩) := by
  refine (harg2.readAt_unread x1 _ _).trans (congrArg x1 ?_)
  funext a
  refine Fin.ext ?_
  fin_cases a
  · show 0 + 1 * k.val = k.val
    omega
  · show o + 1 * l.val = o + l.val
    omega

/-- A load of 512 columns of the column scales. -/
theorem load_x2 (o : ℕ) (ho : o + 512 ≤ 4608) (inb : ∀ a, (![0, o] : Fin 2 → ℕ) a + (![1, 512] : Fin 2 → ℕ) a ≤ S1x4608.size a)
    (l : Fin 512) :
    View.readAt (Elt Ideal) arg3.view (Rect.unit (s := S1x4608) ![0, o] ![1, 512] inb).toLoadRect (harg3.unread x2) (ix2 0 l)
      = x2 (ix2 0 ⟨o + l.val, by omega⟩) := by
  refine (harg3.readAt_unread x2 _ _).trans (congrArg x2 ?_)
  funext a
  refine Fin.ext ?_
  fin_cases a
  · rfl
  · show o + 1 * l.val = o + l.val
    omega

/-- The block of products. -/
def blockOut : S256x4608.Idx → EReal := fun j =>
  (∑ k : Fin 7168, blockCodes x0 (ix2 (j 0) k) * x1 (ix2 k (j 1))) * x2 (ix2 0 (j 1)) * pow2 (words x0 (ix2 (j 0) 0))

/-- Each store writes its columns of the block of products. -/
theorem piece (o : ℕ) (ho : o + 512 ≤ 4608) (inb : ∀ a, (![0, o] : Fin 2 → ℕ) a + (![256, 512] : Fin 2 → ℕ) a ≤ S256x4608.size a)
    (inb1 : ∀ a, (![0, o] : Fin 2 → ℕ) a + (![7168, 512] : Fin 2 → ℕ) a ≤ S7168x4608.size a)
    (inb2 : ∀ a, (![0, o] : Fin 2 → ℕ) a + (![1, 512] : Fin 2 → ℕ) a ≤ S1x4608.size a) (x : S256x512.Idx) :
    Gen.k1_pay11 (Gen.k1_pay8 (F := Ideal) (words x0)) (blockCodes x0)
        (View.readAt (Elt Ideal) arg2.view (Rect.unit (s := S7168x4608) ![0, o] ![7168, 512] inb1).toLoadRect (harg2.unread x1))
        (View.readAt (Elt Ideal) arg3.view (Rect.unit (s := S1x4608) ![0, o] ![1, 512] inb2).toLoadRect (harg3.unread x2)) x
      = blockOut x0 x1 x2 ((Rect.unit (s := S256x4608) ![0, o] ![256, 512] inb).emb x) := by
  obtain ⟨r, l, rfl⟩ : ∃ (r : Fin 256) (l : Fin 512), x = ix2 r l := ⟨x 0, x 1, ValueIdx.eq_ix2 x⟩
  have he : (Rect.unit (s := S256x4608) ![0, o] ![256, 512] inb).emb (ix2 r l) = (ix2 r ⟨o + l.val, by omega⟩ : S256x4608.Idx) := by
    funext a
    refine Fin.ext ?_
    fin_cases a
    · show 0 + 1 * r.val = r.val
      omega
    · show o + 1 * l.val = o + l.val
      omega
  rw [he, pay11, chunk, load_x2 _ _ _ _ ho, fast_scale]
  simp only [load_x1 _ _ _ _ ho]
  rfl

/-- … whatever term the store's payload is. -/
theorem piece_of (o : ℕ) (ho : o + 512 ≤ 4608) (inb : ∀ a, (![0, o] : Fin 2 → ℕ) a + (![256, 512] : Fin 2 → ℕ) a ≤ S256x4608.size a)
    (inb1 : ∀ a, (![0, o] : Fin 2 → ℕ) a + (![7168, 512] : Fin 2 → ℕ) a ≤ S7168x4608.size a)
    (inb2 : ∀ a, (![0, o] : Fin 2 → ℕ) a + (![1, 512] : Fin 2 → ℕ) a ≤ S1x4608.size a) (P : Vec Ideal S256x512 .bf16)
    (h : P = Gen.k1_pay11 (Gen.k1_pay8 (F := Ideal) (words x0)) (blockCodes x0)
        (View.readAt (Elt Ideal) arg2.view (Rect.unit (s := S7168x4608) ![0, o] ![7168, 512] inb1).toLoadRect (harg2.unread x1))
        (View.readAt (Elt Ideal) arg3.view (Rect.unit (s := S1x4608) ![0, o] ![1, 512] inb2).toLoadRect (harg3.unread x2)))
    (x : S256x512.Idx) : P x = blockOut x0 x1 x2 ((Rect.unit (s := S256x4608) ![0, o] ![256, 512] inb).emb x) :=
  (congrFun h x).trans (piece _ _ _ _ _ _ _ _ ho _ _ _ x)

/-- The stores the body makes into the products' block. -/
theorem pieces3 : ∀ p ∈ (kernelRun1_A c i arg1 harg1 arg2 harg2 arg3 harg3 arg4 harg4 arg5 harg5 arg6 harg6 x0 x1 x2).1,
    ∀ x : p.1.shape.Idx, p.2 x = blockOut x0 x1 x2 (p.1.emb x) := by
  dsimp only [kernelRun1_A]
  refine List.forall_mem_cons.2 ⟨piece_of arg2 harg2 arg3 harg3 x0 x1 x2 4096 (by norm_num) inb_S256x4608_S256x512_0_4096 inb_S7168x4608_S7168x512_0_4096 inb_S1x4608_S1x512_0_4096 _ ?_, ?_⟩
  · unfold kernelRun1_A.sl.r_8 kernelRun1_A.sl.r_9
    rw [r5_eq, v114_eq]
    exact pay1 _ _ _ _
  refine List.forall_mem_cons.2 ⟨piece_of arg2 harg2 arg3 harg3 x0 x1 x2 3584 (by norm_num) inb_S256x4608_S256x512_0_3584 inb_S7168x4608_S7168x512_0_3584 inb_S1x4608_S1x512_0_3584 _ ?_, ?_⟩
  · rw [r5_eq, v114_eq]
    exact pay18 _ _ _ _
  refine List.forall_mem_cons.2 ⟨piece_of arg2 harg2 arg3 harg3 x0 x1 x2 3072 (by norm_num) inb_S256x4608_S256x512_0_3072 inb_S7168x4608_S7168x512_0_3072 inb_S1x4608_S1x512_0_3072 _ ?_, ?_⟩
  · rw [r5_eq, v114_eq]
    exact pay17 _ _ _ _
  refine List.forall_mem_cons.2 ⟨piece_of arg2 harg2 arg3 harg3 x0 x1 x2 2560 (by norm_num) inb_S256x4608_S256x512_0_2560 inb_S7168x4608_S7168x512_0_2560 inb_S1x4608_S1x512_0_2560 _ ?_, ?_⟩
  · rw [r5_eq, v114_eq]
    exact pay16 _ _ _ _
  refine List.forall_mem_cons.2 ⟨piece_of arg2 harg2 arg3 harg3 x0 x1 x2 2048 (by norm_num) inb_S256x4608_S256x512_0_2048 inb_S7168x4608_S7168x512_0_2048 inb_S1x4608_S1x512_0_2048 _ ?_, ?_⟩
  · rw [r5_eq, v114_eq]
    exact pay15 _ _ _ _
  refine List.forall_mem_cons.2 ⟨piece_of arg2 harg2 arg3 harg3 x0 x1 x2 1536 (by norm_num) inb_S256x4608_S256x512_0_1536 inb_S7168x4608_S7168x512_0_1536 inb_S1x4608_S1x512_0_1536 _ ?_, ?_⟩
  · unfold kernelRun1_A.sl.r_7
    rw [r5_eq, v114_eq]
    exact pay14 _ _ _ _
  refine List.forall_mem_cons.2 ⟨piece_of arg2 harg2 arg3 harg3 x0 x1 x2 1024 (by norm_num) inb_S256x4608_S256x512_0_1024 inb_S7168x4608_S7168x512_0_1024 inb_S1x4608_S1x512_0_1024 _ ?_, ?_⟩
  · rw [r5_eq, v114_eq]
    exact pay12 _ _ _ _
  refine List.forall_mem_cons.2 ⟨piece_of arg2 harg2 arg3 harg3 x0 x1 x2 512 (by norm_num) inb_S256x4608_S256x512_0_512 inb_S7168x4608_S7168x512_0_512 inb_S1x4608_S1x512_0_512 _ ?_, ?_⟩
  · rw [r5_eq, v114_eq]
  refine List.forall_mem_cons.2 ⟨piece_of arg2 harg2 arg3 harg3 x0 x1 x2 0 (by norm_num) inb_S256x4608_S256x512_0_0 inb_S7168x4608_S7168x512_0_0 inb_S1x4608_S1x512_0_0 _ ?_, ?_⟩
  · unfold kernelRun1_A.sl.r_6
    rw [r4_eq, v114_eq]
    exact pay10 _ _ _ _
  exact fun _ h => absurd h List.not_mem_nil

/-- The products' block after the body. -/
theorem out3_eq : out1_A_3 c i arg1 harg1 arg2 harg2 arg3 harg3 arg4 harg4 arg5 harg5 arg6 harg6 x0 x1 x2 = blockOut x0 x1 x2 := by
  funext y
  unfold out1_A_3
  rw [View.read_writes_junk_eq_canon]
  exact View.canon_apply_of_pieces (blockOut x0 x1 x2) _
    (pieces3 c i arg1 harg1 arg2 harg2 arg3 harg3 arg4 harg4 arg5 harg5 arg6 harg6 x0 x1 x2) y
    (cover1_A_3 c i arg1 harg1 arg2 harg2 arg3 harg3 arg4 harg4 arg5 harg5 arg6 harg6 x0 x1 x2 y)

theorem out4_eq : out1_A_4 c i arg1 harg1 arg2 harg2 arg3 harg3 arg4 harg4 arg5 harg5 arg6 harg6 x0 x1 x2 = blockCodes x0 := by
  unfold out1_A_4
  rw [View.read_writes_junk_eq_canon]
  dsimp only [kernelRun1_A]
  rw [H4_eq]
  exact View.canon_unit_zero zeros2 _ _

theorem out5_eq : out1_A_5 c i arg1 harg1 arg2 harg2 arg3 harg3 arg4 harg4 arg5 harg5 arg6 harg6 x0 x1 x2
    = Gen.k1_pay9 (F := Ideal) (words x0) := by
  unfold out1_A_5
  rw [View.read_writes_junk_eq_canon]
  dsimp only [kernelRun1_A]
  rw [r4_eq]
  exact View.canon_unit_zero zeros3 _ _

end Cert.Mx

end
-- ==== Proof.Spec.lean ====
/- What the three results hold, as functions of the whole argument arrays: the products, the codes, the scales. -/
module

public import proofs.«01_k».proof.Proof.Quant

@[expose] public section

noncomputable section

namespace Cert.Mx

open Idealize.ShloMosaic

/-- A row of the activations. -/
def rowOf (X : (⟨2, ![6144, 7168]⟩ : Shape).Idx → EReal) (r : Fin 6144) : Fin 7168 → EReal := fun k => X (ix2 r k)

/-- The product of the codes and the weights, scaled by the column and by the row. -/
def specY (X : (⟨2, ![6144, 7168]⟩ : Shape).Idx → EReal) (W : (⟨2, ![7168, 4608]⟩ : Shape).Idx → EReal)
    (S : (⟨2, ![1, 4608]⟩ : Shape).Idx → EReal) : (⟨2, ![6144, 4608]⟩ : Shape).Idx → EReal := fun j =>
  (∑ k : Fin 7168, code (X (ix2 (j 0) k)) (rowExp (rowOf X (j 0))) * W (ix2 k (j 1))) * S (ix2 0 (j 1))
    * Ideal.exp2 (rowExp (rowOf X (j 0)))

/-- The codes. -/
def specC (X : (⟨2, ![6144, 7168]⟩ : Shape).Idx → EReal) : (⟨2, ![6144, 7168]⟩ : Shape).Idx → EReal := fun j =>
  code (X (ix2 (j 0) (j 1))) (rowExp (rowOf X (j 0)))

/-- The row of a scale: scales are stored in 24 groups of 256. -/
def scaleRow (j : (⟨3, ![24, 1, 256]⟩ : Shape).Idx) : Fin 6144 :=
  ⟨(j 0).val * 256 + (j 2).val, by have h0 : (j 0).val < 24 := (j 0).isLt; have h2 : (j 2).val < 256 := (j 2).isLt; omega⟩

/-- The scales. -/
def specS (X : (⟨2, ![6144, 7168]⟩ : Shape).Idx → EReal) : (⟨3, ![24, 1, 256]⟩ : Shape).Idx → EReal := fun j =>
  Ideal.exp2 (rowExp (rowOf X (scaleRow j)))

end Cert.Mx

end
-- ==== Proof.FastArrays.lean ====
/- The three result arrays of the second call after its run, from the blocks its grid points write. -/
module

public import proofs.«01_k».proof.Proof.FastBlock
public import proofs.«01_k».proof.Proof.Spec
public import Idealize.ShloMosaic.Lib.Pipeline.ValueKit

@[expose] public section

set_option maxRecDepth 16384

noncomputable section

namespace Cert.Mx

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The activations, the decoded weights and the column scales, as the second call finds them. -/
abbrev argX : S6144x7168.Idx → EReal := V c main_v2
abbrev argW : S7168x4608.Idx → EReal := V c main_v7
abbrev argS : S1x4608.Idx → EReal := V c main_v14

/-- The windows' block indices at a grid point. -/
theorem idx0 (t : Fin cfg1.N) : win1_0.index t 0 = t.val ∧ win1_0.index t 1 = 0 :=
  (by decide +kernel : ∀ t : Fin cfg1.N, win1_0.index t 0 = t.val ∧ win1_0.index t 1 = 0) t
theorem idx1 (t : Fin cfg1.N) : win1_1.index t 0 = 0 ∧ win1_1.index t 1 = 0 :=
  (by decide +kernel : ∀ t : Fin cfg1.N, win1_1.index t 0 = 0 ∧ win1_1.index t 1 = 0) t
theorem idx2 (t : Fin cfg1.N) : win1_2.index t 0 = 0 ∧ win1_2.index t 1 = 0 :=
  (by decide +kernel : ∀ t : Fin cfg1.N, win1_2.index t 0 = 0 ∧ win1_2.index t 1 = 0) t
theorem idx3 (t : Fin cfg1.N) : win1_3.index t 0 = t.val ∧ win1_3.index t 1 = 0 :=
  (by decide +kernel : ∀ t : Fin cfg1.N, win1_3.index t 0 = t.val ∧ win1_3.index t 1 = 0) t
theorem idx4 (t : Fin cfg1.N) : win1_4.index t 0 = t.val ∧ win1_4.index t 1 = 0 :=
  (by decide +kernel : ∀ t : Fin cfg1.N, win1_4.index t 0 = t.val ∧ win1_4.index t 1 = 0) t
theorem idx5 (t : Fin cfg1.N) : win1_5.index t 0 = t.val ∧ win1_5.index t 1 = 0 ∧ win1_5.index t 2 = 0 :=
  (by decide +kernel : ∀ t : Fin cfg1.N, win1_5.index t 0 = t.val ∧ win1_5.index t 1 = 0 ∧ win1_5.index t 2 = 0) t

/-- A row of a grid point's block, in the whole array. -/
def rowAt (t : Fin cfg1.N) (r : Fin 256) : Fin 6144 := ⟨t.val * 256 + r.val, by have h : t.val < 24 := t.isLt; omega⟩

/-- The activations' block. -/
theorem blkX (t : Fin cfg1.N) (r : Fin 256) (k : Fin 7168) :
    Gen.iblk1 V c 0 t (ix2 r k) = argX V c (ix2 (rowAt t r) k) := by
  show V c main_v2 (((cfg1.win 0).blk t).view.emb (ix2 r k)) = _
  refine congrArg (argX V c) (funext fun a => Fin.ext ?_)
  match a with
  | ⟨0, _⟩ => show win1_0.index t 0 * 256 + 1 * r.val = t.val * 256 + r.val; rw [(idx0 t).1]; omega
  | ⟨1, _⟩ => show win1_0.index t 1 * 7168 + 1 * k.val = k.val; rw [(idx0 t).2]; omega

/-- The weights' block is the whole array. -/
theorem blkW (t : Fin cfg1.N) : Gen.iblk1 V c 1 t = argW V c := by
  funext z
  show V c main_v7 (((cfg1.win 1).blk t).view.emb z) = _
  refine congrArg (argW V c) (funext fun a => Fin.ext ?_)
  match a with
  | ⟨0, _⟩ => show win1_1.index t 0 * 7168 + 1 * (z 0).val = (z 0).val; rw [(idx1 t).1]; omega
  | ⟨1, _⟩ => show win1_1.index t 1 * 4608 + 1 * (z 1).val = (z 1).val; rw [(idx1 t).2]; omega

/-- The column scales' block is the whole array. -/
theorem blkS (t : Fin cfg1.N) : Gen.iblk1 V c 2 t = argS V c := by
  funext z
  show V c main_v14 (((cfg1.win 2).blk t).view.emb z) = _
  refine congrArg (argS V c) (funext fun a => Fin.ext ?_)
  match a with
  | ⟨0, _⟩ => show win1_2.index t 0 * 1 + 1 * (z 0).val = (z 0).val; rw [(idx2 t).1]; omega
  | ⟨1, _⟩ => show win1_2.index t 1 * 4608 + 1 * (z 1).val = (z 1).val; rw [(idx2 t).2]; omega

/-- A row of the block is a row of the array. -/
theorem block_row (t : Fin cfg1.N) (r : Fin 256) :
    (fun k : Fin 7168 => Gen.iblk1 V c 0 t (ix2 r k)) = rowOf (argX V c) (rowAt t r) := funext fun k => blkX V c t r k

variable (hg : ∀ r, Good (rowOf (argX V c) r))
include hg

/-- The scale of a row of the block. -/
theorem block_scale (t : Fin cfg1.N) (r : Fin 256) :
    pow2 (words (Gen.iblk1 V c 0 t) (ix2 r 0)) = Ideal.exp2 (rowExp (rowOf (argX V c) (rowAt t r))) := by
  rw [words_apply, block_row, pow2_row _ (hg _)]

/-- The code of an element of the block. -/
theorem block_code (t : Fin cfg1.N) (r : Fin 256) (k : Fin 7168) :
    blockCodes (Gen.iblk1 V c 0 t) (ix2 r k) = code (argX V c (ix2 (rowAt t r) k)) (rowExp (rowOf (argX V c) (rowAt t r))) := by
  unfold blockCodes
  rw [fast_code, words_apply, block_row, pow2_neg_row _ (hg _), blkX, code]

/-- The products. -/
theorem fast_y : (dat1 V c).arrAt 3 cfg1.N = specY (argX V c) (argW V c) (argS V c) := by
  refine (dat1 V c).arrAt_eq_of_covers 3 _ (by decide +kernel) fun t hf y => ?_
  obtain ⟨r, l, rfl⟩ : ∃ (r : Fin 256) (l : Fin 4608), y = ix2 r l := ⟨y 0, y 1, ValueIdx.eq_ix2 y⟩
  have he : ((cfg1.win 3).blk t).view.emb (ix2 r l) = (ix2 (rowAt t r) l : S6144x4608.Idx) := by
    refine funext fun a => Fin.ext ?_
    match a with
    | ⟨0, _⟩ => show win1_3.index t 0 * 256 + 1 * r.val = t.val * 256 + r.val; rw [(idx3 t).1]; omega
    | ⟨1, _⟩ => show win1_3.index t 1 * 4608 + 1 * l.val = l.val; rw [(idx3 t).2]; omega
  rw [he, after1_3]
  show (outsAt1 V c t).1 (ix2 r l) = _
  unfold outsAt1
  dsimp only
  rw [out3_eq, blkW, blkS]
  show (∑ k : Fin 7168, blockCodes (Gen.iblk1 V c 0 t) (ix2 r k) * argW V c (ix2 k l)) * argS V c (ix2 0 l)
      * pow2 (words (Gen.iblk1 V c 0 t) (ix2 r 0)) = _
  rw [block_scale V c hg, Finset.sum_congr rfl fun k _ => congrArg (· * _) (block_code V c hg t r k)]
  rfl

/-- The codes. -/
theorem fast_c : (dat1 V c).arrAt 4 cfg1.N = specC (argX V c) := by
  refine (dat1 V c).arrAt_eq_of_covers 4 _ (by decide +kernel) fun t hf y => ?_
  obtain ⟨r, l, rfl⟩ : ∃ (r : Fin 256) (l : Fin 7168), y = ix2 r l := ⟨y 0, y 1, ValueIdx.eq_ix2 y⟩
  have he : ((cfg1.win 4).blk t).view.emb (ix2 r l) = (ix2 (rowAt t r) l : S6144x7168.Idx) := by
    refine funext fun a => Fin.ext ?_
    match a with
    | ⟨0, _⟩ => show win1_4.index t 0 * 256 + 1 * r.val = t.val * 256 + r.val; rw [(idx4 t).1]; omega
    | ⟨1, _⟩ => show win1_4.index t 1 * 7168 + 1 * l.val = l.val; rw [(idx4 t).2]; omega
  rw [he, after1_4]
  show (outsAt1 V c t).2.1 (ix2 r l) = _
  unfold outsAt1
  dsimp only
  rw [out4_eq, block_code V c hg]
  rfl

/-- The scales. -/
theorem fast_s : (dat1 V c).arrAt 5 cfg1.N = specS (argX V c) := by
  refine (dat1 V c).arrAt_eq_of_covers 5 _ (by decide +kernel) fun t hf y => ?_
  obtain ⟨a, b, l, rfl⟩ : ∃ (a b : Fin 1) (l : Fin 256), y = ix3 a b l := ⟨y 0, y 1, y 2, ValueIdx.eq_ix3 y⟩
  obtain rfl : a = 0 := Subsingleton.elim _ _
  obtain rfl : b = 0 := Subsingleton.elim _ _
  have he : ((cfg1.win 5).blk t).view.emb (ix3 (0 : Fin 1) (0 : Fin 1) l) = (ix3 (⟨t.val, t.isLt⟩ : Fin 24) 0 l : S24x1x256.Idx) := by
    refine funext fun a => Fin.ext ?_
    match a with
    | ⟨0, _⟩ => show win1_5.index t 0 * 1 + 1 * 0 = t.val; rw [(idx5 t).1]; omega
    | ⟨1, _⟩ => show win1_5.index t 1 * 1 + 1 * 0 = 0; rw [(idx5 t).2.1]
    | ⟨2, _⟩ => show win1_5.index t 2 * 256 + 1 * l.val = l.val; rw [(idx5 t).2.2]; omega
  rw [he, after1_5]
  show (outsAt1 V c t).2.2 (ix3 0 0 l) = _
  unfold outsAt1
  dsimp only
  rw [out5_eq, fast_scale_row, fast_scale, block_scale V c hg]
  rfl

end Cert.Mx

end
-- ==== Proof.E2m1.lean ====
/- The four-bit weights as plain functions of a byte: which nibble, which number it stands for in the reference (a table
   of its bits) and in the kernel (integer arithmetic), and that the two agree. -/
module

public import proofs.«01_k».proof.Proof.Exponent
public import Idealize.ShloMosaic.Lib.IdealHost

@[expose] public section

noncomputable section

namespace Cert.Mx

open Idealize.ShloMosaic

/-- The nibble at position `k` of a row of bytes, of the byte there: the low one where `k` is even, else the high one. -/
def nibble (b : BitVec 8) (k : ℕ) : BitVec 32 :=
  if k % 2 < 1 then IntOp.andi (b.setWidth 32) 15#32 else IntOp.shrsi ArithUnit.vector (b.setWidth 32) 4#32

/-- Whether a word has a bit of a mask. -/
def bit (c b : BitVec 32) : BitVec 1 := IntOp.cmpi .ne (IntOp.andi c b) 0#32

/-- The magnitude by the reference's table. -/
def mag (c : BitVec 32) : EReal :=
  Scalar.select (bit c 4#32)
    (Scalar.select (bit c 2#32) (Scalar.select (bit c 1#32) (Ideal.ofBits .f32 0x40C00000#32) (Ideal.ofBits .f32 0x40800000#32))
      (Scalar.select (bit c 1#32) (Ideal.ofBits .f32 0x40400000#32) (Ideal.ofBits .f32 0x40000000#32)))
    (Scalar.select (bit c 2#32) (Scalar.select (bit c 1#32) (Ideal.ofBits .f32 0x3FC00000#32) 1)
      (Scalar.select (bit c 1#32) (Ideal.ofBits .f32 0x3F000000#32) 0))

/-- Twice the magnitude by the kernel's integer arithmetic. -/
def twice (c : BitVec 32) : BitVec 32 :=
  Scalar.select (IntOp.cmpi .eq (IntOp.andi c 6#32) 0#32) (IntOp.andi c 1#32)
    (IntOp.shli ArithUnit.vector (IntOp.addi 2#32 (IntOp.andi c 1#32))
      (IntOp.subi (IntOp.andi (IntOp.shrsi ArithUnit.vector c 1#32) 3#32) 1#32))

/-- The magnitude by the kernel's integer arithmetic. -/
def half (c : BitVec 32) : EReal := (((twice c).toInt : ℝ) : EReal) * Ideal.ofBits .f32 0x3F000000#32

/-- A magnitude with the nibble's sign. -/
def signed (f : BitVec 32 → EReal) (c : BitVec 32) : EReal := Scalar.select (bit c 8#32) (0 - f c) (f c)

/-- A nibble is one of sixteen words. -/
theorem nibble_lt (b : BitVec 8) (k : ℕ) : ∃ n : Fin 16, nibble b k = BitVec.ofNat 32 n.val := by
  have h : ∀ b : Fin 256, (IntOp.andi ((BitVec.ofFin b : BitVec 8).setWidth 32) 15#32).toNat < 16
      ∧ (IntOp.shrsi ArithUnit.vector ((BitVec.ofFin b : BitVec 8).setWidth 32) 4#32).toNat < 16 := by decide +kernel
  have hb := h b.toFin
  by_cases hk : k % 2 < 1
  · refine ⟨⟨_, hb.1⟩, ?_⟩
    rw [nibble, if_pos hk]
    simp only [BitVec.ofNat_toNat, BitVec.setWidth_eq]
  · refine ⟨⟨_, hb.2⟩, ?_⟩
    rw [nibble, if_neg hk]
    simp only [BitVec.ofNat_toNat, BitVec.setWidth_eq]

/-- Twice the eight magnitudes. -/
def twiceTable (n : ℕ) : ℤ :=
  if n % 8 < 5 then (n % 8 : ℕ) else if n % 8 = 5 then 6 else if n % 8 = 6 then 8 else 12

/-- The eight magnitudes. -/
def table (n : ℕ) : ℝ :=
  if n % 8 = 0 then 0 else if n % 8 = 1 then 1 / 2 else if n % 8 = 2 then 1 else if n % 8 = 3 then 3 / 2
    else if n % 8 = 4 then 2 else if n % 8 = 5 then 3 else if n % 8 = 6 then 4 else 6

theorem lit_half : Ideal.ofBits .f32 0x3F000000#32 = ((1 / 2 : ℝ) : EReal) := by
  simp [Ideal.ofBits, Ideal.ieee]
  norm_cast
  norm_num
theorem lit_three_halves : Ideal.ofBits .f32 0x3FC00000#32 = ((3 / 2 : ℝ) : EReal) := by
  simp [Ideal.ofBits, Ideal.ieee]
  norm_cast
  norm_num
theorem lit_two : Ideal.ofBits .f32 0x40000000#32 = ((2 : ℝ) : EReal) := by
  simp [Ideal.ofBits, Ideal.ieee]
  norm_cast
  norm_num
theorem lit_three : Ideal.ofBits .f32 0x40400000#32 = ((3 : ℝ) : EReal) := by
  simp [Ideal.ofBits, Ideal.ieee]
  norm_cast
  norm_num
theorem lit_four : Ideal.ofBits .f32 0x40800000#32 = ((4 : ℝ) : EReal) := by
  simp [Ideal.ofBits, Ideal.ieee]
  norm_cast
  norm_num
theorem lit_six : Ideal.ofBits .f32 0x40C00000#32 = ((6 : ℝ) : EReal) := by
  simp [Ideal.ofBits, Ideal.ieee]
  norm_cast
  norm_num

/-- The reference's magnitudes. -/
theorem mag_table (n : Fin 16) : mag (BitVec.ofNat 32 n.val) = ((table n.val : ℝ) : EReal) := by
  unfold mag
  rw [lit_half, lit_three_halves, lit_two, lit_three, lit_four, lit_six]
  fin_cases n <;> simp [bit, Scalar.select, IntOp.cmpi, IntOp.andi, table]

/-- Twice a magnitude. -/
theorem twice_table : ∀ n : Fin 16, (twice (BitVec.ofNat 32 n.val)).toInt = twiceTable n.val := by
  decide +kernel

/-- The kernel's magnitudes. -/
theorem half_table (n : Fin 16) : half (BitVec.ofNat 32 n.val) = ((table n.val : ℝ) : EReal) := by
  rw [half, twice_table, lit_half, ← EReal.coe_mul, EReal.coe_eq_coe_iff]
  fin_cases n <;> norm_num [table, twiceTable]

/-- The number a nibble stands for is the same in the kernel and in the reference, and a real number. -/
theorem signed_half (b : BitVec 8) (k : ℕ) : signed half (nibble b k) = signed mag (nibble b k) := by
  obtain ⟨n, hn⟩ := nibble_lt b k
  rw [hn, signed, signed, half_table, mag_table]

theorem signed_real (b : BitVec 8) (k : ℕ) : ∃ v : ℝ, signed mag (nibble b k) = (v : EReal) := by
  obtain ⟨n, hn⟩ := nibble_lt b k
  rw [hn, signed, mag_table, Scalar.select]
  split
  · exact ⟨0 - table n.val, by push_cast; rfl⟩
  · exact ⟨_, rfl⟩

end Cert.Mx

end
-- ==== Proof.DecodePayload.lean ====
/- The payloads of the kernel's first call, which decodes the weights, at an index. -/
module

public import proofs.«01_k».proof.Proof.E2m1
public import proofs.«01_k».proof.Proof.Rows
public import proofs.«01_k».proof.Proof.Gen.KernelIdeal.Skeleton

@[expose] public section

set_option maxRecDepth 16384

noncomputable section

namespace Cert.Mx

open Idealize.ShloMosaic Cert.KernelIdeal

/-- The exponent of a block of 32 weights relative to the column's base. -/
def relExp (s : BitVec 8) (base : BitVec 32) : BitVec 32 :=
  IntOp.maxsi (IntOp.subi (s.setWidth 32) base) 4294967169#32

/-- A decoded weight: the nibble's number times the power of two of its block. -/
def weight (b s : BitVec 8) (base : BitVec 32) (k : ℕ) : EReal := signed half (nibble b k) * pow2 (relExp s base)

/-- 256 rows of decoded weights, from 128 columns of bytes and 8 rows of scales. -/
def decoded (v1 : IVec S1x512 32) (w : Vec Ideal S512x128 .i8) (s : Vec Ideal S8x512 .i8) : FVec Ideal S256x512 .fp8e5m2 :=
  Gen.k0_pay1 v1 (Gen.k0_pay17 (F := Ideal) w) (Gen.k0_pay18 (F := Ideal) w) s

theorem decoded_apply (v1 : IVec S1x512 32) (w : Vec Ideal S512x128 .i8) (s : Vec Ideal S8x512 .i8) (r : Fin 256) (l : Fin 512) :
    decoded v1 w s (ix2 r l)
      = weight (w (ix2 l ⟨r.val / 2, by omega⟩)) (s (ix2 ⟨r.val / 32, by omega⟩ l)) (v1 (ix2 0 l)) r.val := by
  pointwise [decoded, Gen.k0_pay1, Gen.k0_pay17, Gen.k0_pay18, sitofp_ideal]
  rfl

section
variable (v1 : IVec S1x512 32) (w : Vec Ideal S512x128 .i8) (s : Vec Ideal S8x512 .i8)

/-- The four stores write the same function of their loads. -/
theorem decoded7 : Gen.k0_pay7 v1 (Gen.k0_pay4 w) (Gen.k0_pay5 (F := Ideal) w) (Gen.k0_pay6 w) s = decoded v1 w s := rfl
theorem decoded12 : Gen.k0_pay12 v1 (Gen.k0_pay8 (F := Ideal) w) (Gen.k0_pay9 (F := Ideal) w) (Gen.k0_pay10 (F := Ideal) w)
    (Gen.k0_pay11 (F := Ideal) w) s = decoded v1 w s := rfl
theorem decoded16 : Gen.k0_pay16 (Gen.k0_pay14 (F := Ideal) (Gen.k0_pay13 (F := Ideal) w) 15#32) (Gen.k0_pay15 (F := Ideal) v1 s)
    = decoded v1 w s := rfl
end

end Cert.Mx

end
-- ==== Proof.DecodeBlock.lean ====
/- The array of decoded weights that the first call leaves, from the blocks its grid points write. -/
module

public import proofs.«01_k».proof.Proof.Gen.KernelIdeal.Frame
public import proofs.«01_k».proof.Proof.DecodePayload
public import Idealize.ShloMosaic.Lib.Pipeline.ValueKit

@[expose] public section

set_option maxRecDepth 16384

noncomputable section

namespace Cert.Mx.Decode

open Cert.KernelIdeal Cert.KernelIdeal.Gen Idealize.ShloMosaic Idealize.ShloMosaic.TcCoe Idealize.SL.Sem
open Idealize.ShloMosaic.Pipeline (Dat)

section
variable (x0 : Vec Ideal S512x512 .i8) (x1 : Vec Ideal S32x512 .i8) (x2 : Vec Ideal S1x512 .i32)

/-- A block of decoded weights, from blocks of bytes, scales and bases. -/
def blockW : S1024x512.Idx → EReal := fun j =>
  weight (x0 (ix2 (j 1) ⟨(j 0).val / 2, by have h : (j 0).val < 1024 := (j 0).isLt; omega⟩))
    (x1 (ix2 ⟨(j 0).val / 32, by have h : (j 0).val < 1024 := (j 0).isLt; omega⟩ (j 1))) (x2 (ix2 0 (j 1))) (j 0).val

/-- The position of a weight in its byte depends on the row's parity alone. -/
theorem weight_even (b s : BitVec 8) (base : BitVec 32) (q r : ℕ) : weight b s base (256 * q + r) = weight b s base r := by
  rw [weight, weight, nibble, nibble, show (256 * q + r) % 2 = r % 2 by omega]

/-- Each store writes its 256 rows of the block. -/
theorem piece (q oa ob oo : ℕ) (ha : oa = 128 * q) (hb : ob = 8 * q) (ho : oo = 256 * q) (hq : q < 4)
    (ia : ∀ a, (![0, oa] : Fin 2 → ℕ) a + (![512, 128] : Fin 2 → ℕ) a ≤ S512x512.size a)
    (ib : ∀ a, (![ob, 0] : Fin 2 → ℕ) a + (![8, 512] : Fin 2 → ℕ) a ≤ S32x512.size a)
    (io : ∀ a, (![oo, 0] : Fin 2 → ℕ) a + (![256, 512] : Fin 2 → ℕ) a ≤ S1024x512.size a) (P : Vec Ideal S256x512 .fp8e5m2)
    (hP : P = decoded x2 (View.ld x0 (Rect.unit (s := S512x512) ![0, oa] ![512, 128] ia))
      (View.ld x1 (Rect.unit (s := S32x512) ![ob, 0] ![8, 512] ib))) (x : S256x512.Idx) :
    P x = blockW x0 x1 x2 ((Rect.unit (s := S1024x512) ![oo, 0] ![256, 512] io).emb x) := by
  subst ha hb ho
  obtain ⟨r, l, rfl⟩ : ∃ (r : Fin 256) (l : Fin 512), x = ix2 r l := ⟨x 0, x 1, ValueIdx.eq_ix2 x⟩
  have he : (Rect.unit (s := S1024x512) ![256 * q, 0] ![256, 512] io).emb (ix2 r l)
      = (ix2 ⟨256 * q + r.val, by omega⟩ l : S1024x512.Idx) := by
    funext a
    refine Fin.ext ?_
    fin_cases a
    · show 256 * q + 1 * r.val = 256 * q + r.val
      omega
    · show 0 + 1 * l.val = l.val
      omega
  have h0 : View.ld x0 (Rect.unit (s := S512x512) ![0, 128 * q] ![512, 128] ia) (ix2 l ⟨r.val / 2, by omega⟩)
      = x0 (ix2 l ⟨(256 * q + r.val) / 2, by omega⟩) := by
    refine View.ld_unit_apply_of x0 _ _ _ _ _ fun a => ?_
    fin_cases a
    · show l.val = 0 + l.val
      omega
    · show (256 * q + r.val) / 2 = 128 * q + r.val / 2
      omega
  have h1 : View.ld x1 (Rect.unit (s := S32x512) ![8 * q, 0] ![8, 512] ib) (ix2 ⟨r.val / 32, by omega⟩ l)
      = x1 (ix2 ⟨(256 * q + r.val) / 32, by omega⟩ l) := by
    refine View.ld_unit_apply_of x1 _ _ _ _ _ fun a => ?_
    fin_cases a
    · show (256 * q + r.val) / 32 = 8 * q + r.val / 32
      omega
    · show l.val = 0 + l.val
      omega
  rw [hP, he]
  refine (decoded_apply x2 _ _ r l).trans ?_
  rw [h0, h1]
  exact (weight_even _ _ _ q r.val).symm

theorem zeros2 : (![0, 0] : Fin 2 → ℕ) = fun _ => 0 := by funext a; fin_cases a <;> rfl

theorem pay2_same (v : IVec S1x512 32) : k0_pay2 (F := Ideal) v = v := shapeCast_self _ _

/-- The bases are loaded whole. -/
theorem base_eq : k0_pay19 (F := Ideal) x0 x1 x2 = x2 := by
  unfold k0_pay19
  rw [pay2_same]
  exact View.ld_unit_zero zeros2 _ x2

/-- The block the body leaves. -/
theorem out_eq : out0_3 x0 x1 x2 = blockW x0 x1 x2 := by
  unfold out0_3
  rw [base_eq]
  funext y
  refine View.canon_apply_of_pieces (Val := Elt Ideal) (blockW x0 x1 x2) _ ?_ y (cover0_3 _ _ _ _ y)
  refine List.forall_mem_cons.2 ⟨piece x0 x1 x2 3 384 24 768 rfl rfl rfl (by norm_num) inb_S512x512_S512x128_0_384
    inb_S32x512_S8x512_24_0 inb_S1024x512_S256x512_768_0 _ rfl, ?_⟩
  refine List.forall_mem_cons.2 ⟨piece x0 x1 x2 2 256 16 512 rfl rfl rfl (by norm_num) inb_S512x512_S512x128_0_256
    inb_S32x512_S8x512_16_0 inb_S1024x512_S256x512_512_0 _ (decoded16 _ _ _), ?_⟩
  refine List.forall_mem_cons.2 ⟨piece x0 x1 x2 1 128 8 256 rfl rfl rfl (by norm_num) inb_S512x512_S512x128_0_128
    inb_S32x512_S8x512_8_0 inb_S1024x512_S256x512_256_0 _ (decoded12 _ _ _), ?_⟩
  refine List.forall_mem_cons.2 ⟨piece x0 x1 x2 0 0 0 0 rfl rfl rfl (by norm_num) inb_S512x512_S512x128_0_0
    inb_S32x512_S8x512_0_0 inb_S1024x512_S256x512_0_0 _ (decoded7 _ _ _), ?_⟩
  exact fun _ h => absurd h List.not_mem_nil
end

variable (V : (c : Dev nD) → (b : Ref sig .tc) → Buf (Elt Ideal) ((c : Thread nD τ).loc b)) (c : Dev nD)

/-- The bytes, the transposed scales and the columns' bases, as the call finds them. -/
abbrev argB : S4608x3584.Idx → BitVec 8 := V c main_arg1
abbrev argT : S224x4608.Idx → BitVec 8 := V c main_v3
abbrev argE : S1x4608.Idx → BitVec 32 := V c main_v6

/-- The decoded weights. -/
def arrW (B : S4608x3584.Idx → BitVec 8) (T : S224x4608.Idx → BitVec 8) (E : S1x4608.Idx → BitVec 32) : S7168x4608.Idx → EReal := fun j =>
  weight (B (ix2 (j 1) ⟨(j 0).val / 2, by have h : (j 0).val < 7168 := (j 0).isLt; omega⟩))
    (T (ix2 ⟨(j 0).val / 32, by have h : (j 0).val < 7168 := (j 0).isLt; omega⟩ (j 1))) (E (ix2 0 (j 1))) (j 0).val

/-- The windows' block indices at a grid point. -/
theorem idx (t : Fin cfg0.N) : win0_0.index t 0 = t.val / 7 ∧ win0_0.index t 1 = t.val % 7
    ∧ win0_1.index t 0 = t.val % 7 ∧ win0_1.index t 1 = t.val / 7 ∧ win0_2.index t 0 = 0 ∧ win0_2.index t 1 = t.val / 7
    ∧ win0_3.index t 0 = t.val % 7 ∧ win0_3.index t 1 = t.val / 7 :=
  (by decide +kernel : ∀ t : Fin cfg0.N, win0_0.index t 0 = t.val / 7 ∧ win0_0.index t 1 = t.val % 7
    ∧ win0_1.index t 0 = t.val % 7 ∧ win0_1.index t 1 = t.val / 7 ∧ win0_2.index t 0 = 0 ∧ win0_2.index t 1 = t.val / 7
    ∧ win0_3.index t 0 = t.val % 7 ∧ win0_3.index t 1 = t.val / 7) t

/-- A row and a column of a grid point's block, in the whole array. -/
def rowAt (t : Fin cfg0.N) (r : Fin 1024) : Fin 7168 := ⟨t.val % 7 * 1024 + r.val, by omega⟩
def colAt (t : Fin cfg0.N) (l : Fin 512) : Fin 4608 := ⟨t.val / 7 * 512 + l.val, by have h : t.val < 63 := t.isLt; omega⟩

theorem blkB (t : Fin cfg0.N) (l : Fin 512) (r : Fin 1024) : iblk0 V c 0 t (ix2 l ⟨r.val / 2, by omega⟩)
    = argB V c (ix2 (colAt t l) ⟨(rowAt t r).val / 2, by have := (rowAt t r).isLt; omega⟩) := by
  obtain ⟨h0, h1, -⟩ := idx t
  show V c main_arg1 (((cfg0.win 0).blk t).view.emb (ix2 l ⟨r.val / 2, by omega⟩)) = _
  refine congrArg (argB V c) (funext fun a => Fin.ext ?_)
  match a with
  | ⟨0, _⟩ => show win0_0.index t 0 * 512 + 1 * l.val = t.val / 7 * 512 + l.val; rw [h0]; omega
  | ⟨1, _⟩ => show win0_0.index t 1 * 512 + 1 * (r.val / 2) = (t.val % 7 * 1024 + r.val) / 2; rw [h1]; omega

theorem blkT (t : Fin cfg0.N) (l : Fin 512) (r : Fin 1024) : iblk0 V c 1 t (ix2 ⟨r.val / 32, by omega⟩ l)
    = argT V c (ix2 ⟨(rowAt t r).val / 32, by have := (rowAt t r).isLt; omega⟩ (colAt t l)) := by
  obtain ⟨-, -, h0, h1, -⟩ := idx t
  show V c main_v3 (((cfg0.win 1).blk t).view.emb (ix2 ⟨r.val / 32, by omega⟩ l)) = _
  refine congrArg (argT V c) (funext fun a => Fin.ext ?_)
  match a with
  | ⟨0, _⟩ => show win0_1.index t 0 * 32 + 1 * (r.val / 32) = (t.val % 7 * 1024 + r.val) / 32; rw [h0]; omega
  | ⟨1, _⟩ => show win0_1.index t 1 * 512 + 1 * l.val = t.val / 7 * 512 + l.val; rw [h1]; omega

theorem blkE (t : Fin cfg0.N) (l : Fin 512) : iblk0 V c 2 t (ix2 (0 : Fin 1) l) = argE V c (ix2 0 (colAt t l)) := by
  obtain ⟨-, -, -, -, h0, h1, -⟩ := idx t
  show V c main_v6 (((cfg0.win 2).blk t).view.emb (ix2 (0 : Fin 1) l)) = _
  refine congrArg (argE V c) (funext fun a => Fin.ext ?_)
  match a with
  | ⟨0, _⟩ => show win0_2.index t 0 * 1 + 1 * 0 = 0; rw [h0]
  | ⟨1, _⟩ => show win0_2.index t 1 * 512 + 1 * l.val = t.val / 7 * 512 + l.val; rw [h1]; omega

theorem weight_row (b s : BitVec 8) (base : BitVec 32) (t : Fin cfg0.N) (r : Fin 1024) :
    weight b s base r.val = weight b s base (rowAt t r).val := by
  rw [weight, weight, nibble, nibble, show (rowAt t r).val % 2 = r.val % 2 by show (t.val % 7 * 1024 + r.val) % 2 = _; omega]

/-- The array of decoded weights after the call. -/
theorem arr_eq : (dat0 V c).arrAt 3 cfg0.N = arrW (argB V c) (argT V c) (argE V c) := by
  refine (dat0 V c).arrAt_eq_of_covers 3 _ (by decide +kernel) fun t hf y => ?_
  obtain ⟨r, l, rfl⟩ : ∃ (r : Fin 1024) (l : Fin 512), y = ix2 r l := ⟨y 0, y 1, ValueIdx.eq_ix2 y⟩
  obtain ⟨-, -, -, -, -, -, h0, h1⟩ := idx t
  have he : ((cfg0.win 3).blk t).view.emb (ix2 r l) = (ix2 (rowAt t r) (colAt t l) : S7168x4608.Idx) := by
    refine funext fun a => Fin.ext ?_
    match a with
    | ⟨0, _⟩ => show win0_3.index t 0 * 1024 + 1 * r.val = t.val % 7 * 1024 + r.val; rw [h0]; omega
    | ⟨1, _⟩ => show win0_3.index t 1 * 512 + 1 * l.val = t.val / 7 * 512 + l.val; rw [h1]; omega
  rw [he, after0_3, out_eq]
  show weight (iblk0 V c 0 t (ix2 l ⟨r.val / 2, _⟩)) (iblk0 V c 1 t (ix2 ⟨r.val / 32, _⟩ l)) (iblk0 V c 2 t (ix2 0 l)) r.val = _
  rw [blkB, blkT, blkE, weight_row _ _ _ t r]
  rfl

end Cert.Mx.Decode

end
-- ==== Proof.RefPayload.lean ====
/- The reference's payloads at an index, as the plain functions of Quant.lean. -/
module

public import proofs.«01_k».proof.Proof.Quant
public import proofs.«01_k».proof.Proof.E2m1
public import proofs.«01_k».proof.Proof.Rows
public import proofs.«01_k».proof.Proof.Gen.ReferenceIdeal.Skeleton

@[expose] public section

set_option maxRecDepth 16384

noncomputable section

namespace Cert.Mx

open Idealize.ShloMosaic Cert.ReferenceIdeal

/-- The power of two the count compares with. -/
theorem ref_power (k : Fin 254) : Ideal.exp2 ((((BitVec.ofNat 32 k.val).toInt : ℝ) : EReal) - ((126 : ℝ) : EReal))
    = (((2 : ℝ) ^ ((k.val : ℤ) - 126) : ℝ) : EReal) := by
  have h1 : (BitVec.ofNat 32 k.val).toInt = (k.val : ℤ) := by
    rw [BitVec.toInt_ofNat', Int.bmod_eq_of_le (by omega) (by omega)]
  rw [h1, ← exp2_int]; push_cast; norm_cast

/-- The largest magnitude of each row, a column. -/
def refMax (x : Vec Ideal S6144x7168 .bf16) : FVec Ideal S6144x1 .f32 :=
  shapeCast S6144x1 (multiReduction .maximumf [1] S6144 (absf (Gen.k0_pay2 x)) 0xFF800000#32
    Facts₀.reduces_S6144x7168_S6144 (.inl rfl) rfl) Facts₀.shapeCasts_S6144_S6144x1

/-- Which powers of two each scaled magnitude reaches, as ones and zeros. -/
def refOnes (a : FVec Ideal S6144x1 .f32) : FVec Ideal S6144x254 .f32 :=
  select (cmpf .oge (broadcastTo S6144x254 (mulf a (broadcast S6144x1 (Scalar.ofBits .f32 0x3B124925#32))) Facts₀.broadcasts_S6144x1_S6144x254)
      (broadcastTo S6144x254 (exp2 (subf (sitofp .f32 (iota .tc S1x254 32 [1] Facts₀.iota_S1x254_d1_w32))
        (broadcast S1x254 (Scalar.ofBits .f32 0x42FC0000#32)))) Facts₀.broadcasts_S1x254_S6144x254))
    (broadcast S6144x254 (Scalar.ofBits .f32 0x3F800000#32)) (broadcast S6144x254 (Scalar.ofBits .f32 0x00000000#32))

/-- How many powers are reached, a column. -/
def refCount (o : FVec Ideal S6144x254 .f32) : FVec Ideal S6144x1 .f32 :=
  shapeCast S6144x1 (multiReduction .add [1] S6144 o 0x00000000#32 Facts₀.reduces_S6144x254_S6144 (.inl rfl) rfl)
    Facts₀.shapeCasts_S6144_S6144x1

/-- The exponent from the count. -/
def refSel (a n : FVec Ideal S6144x1 .f32) : FVec Ideal S6144x1 .f32 :=
  select (cmpf .oeq a (broadcast S6144x1 (Scalar.ofBits .f32 0x00000000#32))) (broadcast S6144x1 (Scalar.ofBits .f32 0x00000000#32))
    (subf n (broadcast S6144x1 (Scalar.ofBits .f32 0x42FC0000#32)))

theorem ref_pay3 (x : Vec Ideal S6144x7168 .bf16) : Gen.k0_pay3 x = refSel (refMax x) (refCount (refOnes (refMax x))) := rfl

theorem ref_pay2' (x : Vec Ideal S6144x7168 .bf16) : Gen.k0_pay2 x = extf .f32 (shapeCast S6144x7168 x
    Facts₀.shapeCasts_S6144x7168_S6144x7168) Facts₀.bitsLt_bf16_f32 := rfl

theorem ref_pay2 (x : Vec Ideal S6144x7168 .bf16) (j : S6144x7168.Idx) : Gen.k0_pay2 x j = x j := by
  rw [ref_pay2', shapeCast_self]
  rfl

theorem refMax_apply (x : Vec Ideal S6144x7168 .bf16) (r : Fin 6144) : refMax x (ix2 r 0) = amax fun k => x (ix2 r k) := by
  refine (col6144_apply _ _ r).trans ((rowMax_apply (absf (Gen.k0_pay2 x)) _ _ _ rfl r).trans ?_)
  refine (congrArg (fun z => Finset.fold max z (fun k => absf (Gen.k0_pay2 x) (ix2 r k)) Finset.univ) ofBits_bot_f32).trans ?_
  simp only [absf_apply, absf_ideal, amax, ref_pay2]

theorem refOnes_apply (a : FVec Ideal S6144x1 .f32) (r : Fin 6144) (k : Fin 254) :
    refOnes a (ix2 r k) = if (((2 : ℝ) ^ ((k.val : ℤ) - 126) : ℝ) : EReal) ≤ a (ix2 r 0) * Ideal.ofBits .f32 0x3B124925#32 then 1 else 0 := by
  rw [← ref_power]
  pointwise [refOnes, ofBits_126, exp2_ideal, sitofp_ideal]

theorem refSel_apply (a n : FVec Ideal S6144x1 .f32) (r : Fin 6144) :
    refSel a n (ix2 r 0) = if a (ix2 r 0) = 0 then 0 else n (ix2 r 0) - ((126 : ℝ) : EReal) := by
  pointwise [refSel, ofBits_126]

/-- The row's exponent. -/
theorem ref_exp (x : Vec Ideal S6144x7168 .bf16) (r : Fin 6144) :
    Gen.k0_pay3 x (ix2 r 0) = rowExp fun k => x (ix2 r k) := by
  have h : refCount (refOnes (refMax x)) (ix2 r 0) = count (scaled fun k => x (ix2 r k)) := by
    refine (col6144_apply _ _ r).trans ((rowSum_apply (refOnes (refMax x)) _ _ _ rfl r).trans ?_)
    simp only [refOnes_apply, refMax_apply, count, scaled]
    rfl
  rw [ref_pay3, refSel_apply, refMax_apply, h, rowExp]

/-- The scale as stored, from the exponents. -/
theorem ref_scale' (e : FVec Ideal S6144x1 .f32) (b : Fin 24) (l : Fin 256) :
    shapeCast S24x1x256 (exp2 e) Facts₀.shapeCasts_S6144x1_S24x1x256 (ix3 b 0 l)
      = Ideal.exp2 (e (ix2 ⟨b.val * 256 + l.val, by omega⟩ 0)) := by
  pointwise [exp2_ideal]

theorem ref_pay6 (x : Vec Ideal S6144x7168 .bf16) :
    Gen.k0_pay6 x = shapeCast S24x1x256 (exp2 (Gen.k0_pay3 x)) Facts₀.shapeCasts_S6144x1_S24x1x256 := rfl

theorem ref_pay4 (x : Vec Ideal S6144x7168 .bf16) : Gen.k0_pay4 x = exp2 (Gen.k0_pay3 x) := rfl

/-- The row's scale. -/
theorem ref_scale (x : Vec Ideal S6144x7168 .bf16) (b : Fin 24) (l : Fin 256) :
    Gen.k0_pay6 x (ix3 b 0 l) = Ideal.exp2 (rowExp fun k => x (ix2 ⟨b.val * 256 + l.val, by omega⟩ k)) := by
  rw [ref_pay6, ref_scale', ref_exp]

/-- The codes from the exponents. -/
def refCode (x : FVec Ideal S6144x7168 .f32) (e : FVec Ideal S6144x1 .f32) : FVec Ideal S6144x7168 .fp8e4m3 :=
  truncf .fp8e4m3 (minimumf (broadcast S6144x7168 (Scalar.ofBits .f32 0x43E00000#32))
    (maximumf (broadcast S6144x7168 (Scalar.ofBits .f32 0xC3E00000#32))
      (mulf x (broadcastTo S6144x7168 (exp2 (subf (broadcast S6144x1 (Scalar.ofBits .f32 0x00000000#32)) e))
        Facts₀.broadcasts_S6144x1_S6144x7168)))) Facts₀.bitsLt_fp8e4m3_f32

theorem ref_pay5 (x : Vec Ideal S6144x7168 .bf16) : Gen.k0_pay5 x = refCode (Gen.k0_pay2 x) (Gen.k0_pay3 x) := rfl

theorem refCode_apply (x : FVec Ideal S6144x7168 .f32) (e : FVec Ideal S6144x1 .f32) (r : Fin 6144) (l : Fin 7168) :
    refCode x e (ix2 r l) = code (x (ix2 r l)) (e (ix2 r 0)) := by
  pointwise [refCode, code, exp2_ideal]

/-- The code of an element. -/
theorem ref_code (x : Vec Ideal S6144x7168 .bf16) (r : Fin 6144) (l : Fin 7168) :
    Gen.k0_pay5 x (ix2 r l) = code (x (ix2 r l)) (rowExp fun k => x (ix2 r k)) := by
  rw [ref_pay5, refCode_apply, ref_exp, ref_pay2]

/-- A weight of the reference: the nibble's number times the power of two of its block of 32. -/
def refWeight (b s : BitVec 8) (k : ℕ) : EReal :=
  signed mag (nibble b k) * Ideal.exp2 ((((s.setWidth 32).toInt : ℝ) : EReal) - Ideal.ofBits .f32 0x42FE0000#32)

/-- The nibbles in order. -/
theorem ref_nibble (w : Vec Ideal S4608x3584 .i8) (n : Fin 4608) (k : Fin 7168) :
    Gen.k0_pay7 (F := Ideal) w (ix2 n k) = nibble (w (ix2 n ⟨k.val / 2, by omega⟩)) k.val := by
  pointwise [Gen.k0_pay7]
  rfl

/-- The table's upper half from the nibbles. -/
def refUpper (c : IVec S4608x7168 32) : FVec Ideal S4608x7168 .f32 :=
  select (cmpi .ne (andi c (broadcast S4608x7168 2#32)) (broadcast S4608x7168 0#32))
    (select (cmpi .ne (andi c (broadcast S4608x7168 1#32)) (broadcast S4608x7168 0#32))
      (broadcast S4608x7168 (Scalar.ofBits .f32 0x40C00000#32)) (broadcast S4608x7168 (Scalar.ofBits .f32 0x40800000#32)))
    (select (cmpi .ne (andi c (broadcast S4608x7168 1#32)) (broadcast S4608x7168 0#32))
      (broadcast S4608x7168 (Scalar.ofBits .f32 0x40400000#32)) (broadcast S4608x7168 (Scalar.ofBits .f32 0x40000000#32)))

/-- The product from the exponents, the codes, the nibbles and the scales. -/
def refProduct (e : FVec Ideal S6144x1 .f32) (y : FVec Ideal S6144x7168 .fp8e4m3) (c : IVec S4608x7168 32)
    (s : Vec Ideal S4608x224 .i8) : FVec Ideal S6144x4608 .bf16 :=
  Gen.k0_pay1 (exp2 e) y c (cmpi .ne (andi c (broadcast S4608x7168 4#32)) (broadcast S4608x7168 0#32)) (refUpper c)
    (cmpi .ne (andi c (broadcast S4608x7168 2#32)) (broadcast S4608x7168 0#32)) (andi c (broadcast S4608x7168 1#32)) s

theorem refProduct_apply (e : FVec Ideal S6144x1 .f32) (y : FVec Ideal S6144x7168 .fp8e4m3) (c : IVec S4608x7168 32)
    (s : Vec Ideal S4608x224 .i8) (r : Fin 6144) (n : Fin 4608) :
    refProduct e y c s (ix2 r n) = (∑ k : Fin 7168, y (ix2 r k) * (signed mag (c (ix2 n k))
      * Ideal.exp2 (((((s (ix2 n ⟨k.val / 32, by omega⟩)).setWidth 32).toInt : ℝ) : EReal) - Ideal.ofBits .f32 0x42FE0000#32)))
      * Ideal.exp2 (e (ix2 r 0)) := by
  pointwise [refProduct, refUpper, Gen.k0_pay1, exp2_ideal, sitofp_ideal]
  rfl

theorem ref_pay1 (x : Vec Ideal S6144x7168 .bf16) (w : Vec Ideal S4608x3584 .i8) (s : Vec Ideal S4608x224 .i8) :
    Gen.k0_pay1 (Gen.k0_pay4 x) (Gen.k0_pay5 x) (Gen.k0_pay7 (F := Ideal) w) (Gen.k0_pay8 (F := Ideal) w) (Gen.k0_pay9 w)
      (Gen.k0_pay10 (F := Ideal) w) (Gen.k0_pay11 (F := Ideal) w) s
      = refProduct (Gen.k0_pay3 x) (Gen.k0_pay5 x) (Gen.k0_pay7 (F := Ideal) w) s := rfl

/-- The reference's product. -/
theorem ref_out (x : Vec Ideal S6144x7168 .bf16) (w : Vec Ideal S4608x3584 .i8) (s : Vec Ideal S4608x224 .i8)
    (r : Fin 6144) (n : Fin 4608) :
    Gen.k0_pay1 (Gen.k0_pay4 x) (Gen.k0_pay5 x) (Gen.k0_pay7 (F := Ideal) w) (Gen.k0_pay8 (F := Ideal) w) (Gen.k0_pay9 w)
      (Gen.k0_pay10 (F := Ideal) w) (Gen.k0_pay11 (F := Ideal) w) s (ix2 r n)
      = (∑ k : Fin 7168, code (x (ix2 r k)) (rowExp fun k => x (ix2 r k))
          * refWeight (w (ix2 n ⟨k.val / 2, by omega⟩)) (s (ix2 n ⟨k.val / 32, by omega⟩)) k.val)
        * Ideal.exp2 (rowExp fun k => x (ix2 r k)) := by
  rw [ref_pay1, refProduct_apply, ref_exp]
  simp only [ref_code, ref_nibble, refWeight]

end Cert.Mx

end
-- ==== Proof.RefArrays.lean ====
/- The three result arrays of the reference after its run: its one grid point writes them whole. -/
module

public import proofs.«01_k».proof.Proof.RefPayload
public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.Mx.Ref

open Cert.ReferenceIdeal Cert.ReferenceIdeal.Gen Idealize.ShloMosaic Idealize.ShloMosaic.TcCoe Idealize.SL.Sem
open Idealize.ShloMosaic.Pipeline (Dat)

/-- The products: the codes times the decoded weights, scaled by the row. -/
def specP (X : S6144x7168.Idx → EReal) (B : S4608x3584.Idx → BitVec 8) (C : S4608x224.Idx → BitVec 8) : S6144x4608.Idx → EReal := fun j =>
  (∑ k : Fin 7168, code (X (ix2 (j 0) k)) (rowExp (rowOf X (j 0)))
      * refWeight (B (ix2 (j 1) ⟨k.val / 2, by omega⟩)) (C (ix2 (j 1) ⟨k.val / 32, by omega⟩)) k.val)
    * Ideal.exp2 (rowExp (rowOf X (j 0)))

/-- Two zero offsets, as a function. -/
theorem zeros2 : (![0, 0] : Fin 2 → ℕ) = fun _ => 0 := by funext a; fin_cases a <;> rfl

/-- Three zero offsets, as a function. -/
theorem zeros3 : (![0, 0, 0] : Fin 3 → ℕ) = fun _ => 0 := by funext a; fin_cases a <;> rfl

section
variable (x0 : Vec Ideal S6144x7168 .bf16) (x1 : Vec Ideal S4608x3584 .i8) (x2 : Vec Ideal S4608x224 .i8)

/-- The loads read the whole arguments. -/
theorem ld0 : View.ld x0 r0_0 = x0 := View.ld_unit_zero zeros2 _ x0
theorem ld1 : View.ld x1 r0_2 = x1 := View.ld_unit_zero zeros2 _ x1
theorem ld2 : View.ld x2 r0_3 = x2 := View.ld_unit_zero zeros2 _ x2

/-- The products the body leaves. -/
theorem out3 : out0_3 x0 x1 x2 = specP x0 x1 x2 := by
  unfold out0_3
  rw [ld0, ld1, ld2]
  refine (View.canon_unit_zero zeros2 _ _).trans (funext fun j => ?_)
  obtain ⟨r, l, rfl⟩ : ∃ (r : Fin 6144) (l : Fin 4608), j = ix2 r l := ⟨j 0, j 1, ValueIdx.eq_ix2 j⟩
  exact ref_out x0 x1 x2 r l

/-- The codes the body leaves. -/
theorem out4 : out0_4 x0 x1 x2 = specC x0 := by
  unfold out0_4
  rw [ld0]
  refine (View.canon_unit_zero zeros2 _ _).trans (funext fun j => ?_)
  obtain ⟨r, l, rfl⟩ : ∃ (r : Fin 6144) (l : Fin 7168), j = ix2 r l := ⟨j 0, j 1, ValueIdx.eq_ix2 j⟩
  exact ref_code x0 r l

/-- The scales the body leaves. -/
theorem out5 : out0_5 x0 x1 x2 = specS x0 := by
  unfold out0_5
  rw [ld0]
  refine (View.canon_unit_zero zeros3 _ _).trans (funext fun j => ?_)
  obtain ⟨a, b, l, rfl⟩ : ∃ (a : Fin 24) (b : Fin 1) (l : Fin 256), j = ix3 a b l := ⟨j 0, j 1, j 2, ValueIdx.eq_ix3 j⟩
  obtain rfl : b = 0 := Subsingleton.elim _ _
  exact ref_scale x0 a l
end

variable (m : (ℓ : Loc nD τ sig) → Buf (Elt Ideal) ℓ) (c : Dev nD)

/-- The activations as a matrix of rows. -/
def flat (X : S6x1024x7168.Idx → EReal) : S6144x7168.Idx → EReal :=
  shapeCast S6144x7168 (X : FVec Ideal S6x1024x7168 .bf16) Gen.facts.shapeCasts_S6x1024x7168_S6144x7168

/-- The arguments of the reference. -/
abbrev argX : S6144x7168.Idx → EReal := flat (m ((c : Thread nD τ).loc main_arg0))
abbrev argB : S4608x3584.Idx → BitVec 8 := m ((c : Thread nD τ).loc main_arg1)
abbrev argC : S4608x224.Idx → BitVec 8 := m ((c : Thread nD τ).loc main_arg2)

/-- The region finds the activations reshaped. -/
theorem V_x : V m c main_v0 = argX m c := by
  unfold_abbrev_sides
  after_results
  rfl

/-- Every window's one block sits at the origin. -/
theorem idx (t : Fin cfg0.N) : ∀ a : Fin 2, win0_0.index t a = 0 ∧ win0_1.index t a = 0 ∧ win0_2.index t a = 0
    ∧ win0_3.index t a = 0 ∧ win0_4.index t a = 0 :=
  (by decide +kernel : ∀ t : Fin cfg0.N, ∀ a : Fin 2, win0_0.index t a = 0 ∧ win0_1.index t a = 0 ∧ win0_2.index t a = 0
    ∧ win0_3.index t a = 0 ∧ win0_4.index t a = 0) t
theorem idx5 (t : Fin cfg0.N) : ∀ a : Fin 3, win0_5.index t a = 0 :=
  (by decide +kernel : ∀ t : Fin cfg0.N, ∀ a : Fin 3, win0_5.index t a = 0) t

theorem iblk0 (t : Fin cfg0.N) : iblk m c 0 t = argX m c := by
  rw [← V_x]
  funext z
  show V m c main_v0 (((cfg0.win 0).blk t).view.emb z) = _
  refine congrArg (V m c main_v0) (funext fun a => Fin.ext ?_)
  match a with
  | ⟨0, _⟩ => show win0_0.index t 0 * 6144 + 1 * (z 0).val = (z 0).val; rw [(idx t 0).1]; omega
  | ⟨1, _⟩ => show win0_0.index t 1 * 7168 + 1 * (z 1).val = (z 1).val; rw [(idx t 1).1]; omega

theorem iblk1 (t : Fin cfg0.N) : iblk m c 1 t = argB m c := by
  show _ = m ((c : Thread nD τ).loc main_arg1)
  rw [← V_main_arg1 m c]
  funext z
  show V m c main_arg1 (((cfg0.win 1).blk t).view.emb z) = _
  refine congrArg (V m c main_arg1) (funext fun a => Fin.ext ?_)
  match a with
  | ⟨0, _⟩ => show win0_1.index t 0 * 4608 + 1 * (z 0).val = (z 0).val; rw [(idx t 0).2.1]; omega
  | ⟨1, _⟩ => show win0_1.index t 1 * 3584 + 1 * (z 1).val = (z 1).val; rw [(idx t 1).2.1]; omega

theorem iblk2 (t : Fin cfg0.N) : iblk m c 2 t = argC m c := by
  show _ = m ((c : Thread nD τ).loc main_arg2)
  rw [← V_main_arg2 m c]
  funext z
  show V m c main_arg2 (((cfg0.win 2).blk t).view.emb z) = _
  refine congrArg (V m c main_arg2) (funext fun a => Fin.ext ?_)
  match a with
  | ⟨0, _⟩ => show win0_2.index t 0 * 4608 + 1 * (z 0).val = (z 0).val; rw [(idx t 0).2.2.1]; omega
  | ⟨1, _⟩ => show win0_2.index t 1 * 224 + 1 * (z 1).val = (z 1).val; rw [(idx t 1).2.2.1]; omega

/-- The products. -/
theorem ref_y : (dats m 0 c).arrAt 3 cfg0.N = specP (argX m c) (argB m c) (argC m c) := by
  refine (dats m 0 c).arrAt_eq_of_covers 3 _ (by decide +kernel) fun t hf y => ?_
  have he : ((cfg0.win 3).blk t).view.emb y = (y : S6144x4608.Idx) := by
    refine funext fun a => Fin.ext ?_
    match a with
    | ⟨0, _⟩ => show win0_3.index t 0 * 6144 + 1 * (y 0).val = (y 0).val; rw [(idx t 0).2.2.2.1]; omega
    | ⟨1, _⟩ => show win0_3.index t 1 * 4608 + 1 * (y 1).val = (y 1).val; rw [(idx t 1).2.2.2.1]; omega
  rw [he, after0_3, out3, iblk0, iblk1, iblk2]
  rfl

/-- The codes. -/
theorem ref_c : (dats m 0 c).arrAt 4 cfg0.N = specC (argX m c) := by
  refine (dats m 0 c).arrAt_eq_of_covers 4 _ (by decide +kernel) fun t hf y => ?_
  have he : ((cfg0.win 4).blk t).view.emb y = (y : S6144x7168.Idx) := by
    refine funext fun a => Fin.ext ?_
    match a with
    | ⟨0, _⟩ => show win0_4.index t 0 * 6144 + 1 * (y 0).val = (y 0).val; rw [(idx t 0).2.2.2.2]; omega
    | ⟨1, _⟩ => show win0_4.index t 1 * 7168 + 1 * (y 1).val = (y 1).val; rw [(idx t 1).2.2.2.2]; omega
  rw [he, after0_4, out4, iblk0]
  rfl

/-- The scales. -/
theorem ref_s : (dats m 0 c).arrAt 5 cfg0.N = specS (argX m c) := by
  refine (dats m 0 c).arrAt_eq_of_covers 5 _ (by decide +kernel) fun t hf y => ?_
  have he : ((cfg0.win 5).blk t).view.emb y = (y : S24x1x256.Idx) := by
    refine funext fun a => Fin.ext ?_
    match a with
    | ⟨0, _⟩ => show win0_5.index t 0 * 24 + 1 * (y 0).val = (y 0).val; rw [idx5 t 0]; omega
    | ⟨1, _⟩ => show win0_5.index t 1 * 1 + 1 * (y 1).val = (y 1).val; rw [idx5 t 1]; omega
    | ⟨2, _⟩ => show win0_5.index t 2 * 256 + 1 * (y 2).val = (y 2).val; rw [idx5 t 2]; omega
  rw [he, after0_5, out5, iblk0]
  rfl

/-- The run: the three result arrays, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = specP (argX m c) (argB m c) (argC m c)
      ∧ r.2.mem ((c : Thread nD τ).loc main_v1_1) = specC (argX m c)
      ∧ r.2.mem ((c : Thread nD τ).loc main_v1_2) = specS (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (ref_y m c), ((h c).1 4).trans (ref_c m c),
      ((h c).1 5).trans (ref_s m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Mx.Ref

end
-- ==== Proof.HostReads.lean ====
/- What each call finds in its input arrays: the host operations before it, read out. -/
module

public import proofs.«01_k».proof.Proof.Gen.KernelIdeal.Frame
public import Idealize.ShloMosaic.Lib.StableHlo.Run
public import Idealize.ShloMosaic.Lib.StableHlo.RunRead
public import Idealize.ShloMosaic.Lib.IdealHost
public import Idealize.ShloMosaic.Lib.Claim

@[expose] public section

set_option maxRecDepth 16384

noncomputable section

namespace Cert.Mx.Host

open Cert.KernelIdeal Cert.KernelIdeal.Gen Idealize.ShloMosaic Idealize.ShloMosaic.TcCoe Idealize.SL.Sem
open Idealize.ShloMosaic.Pipeline (Dat)

/-- The greatest scale of each column. -/
def tops (C : IVec S4608x224 8) : IVec S4608 32 :=
  Host.reduce IntOp.maxsi (extui 32 C Gen.facts.natLt_8_32) (constantI S_ 32 2147483648#32) Gen.facts.reducesTo_S4608x224_S4608_d1 Gen.facts.h_S_

/-- The scales, transposed. -/
def scalesT (C : IVec S4608x224 8) : IVec S224x4608 8 :=
  transpose S224x4608 [1, 0] C Gen.facts.transposes_S4608x224_S224x4608_1_0

/-- The columns' bases. -/
def bases (T : IVec S4608 32) : IVec S1x4608 32 :=
  subi (broadcastInDim S1x4608 ![1] Gen.facts.bcast_S4608_S1x4608_1 T)
    (broadcastInDim S1x4608 ![] Gen.facts.bcast_S_S1x4608 (constantI S_ 32 13#32))

/-- The column scales. -/
def colScales (b : IVec S1x4608 32) : FVec Ideal S1x4608 .f32 :=
  bitcastToFloat .f32 (Host.shli (addi (subi b (broadcastInDim S1x4608 ![] Gen.facts.bcast_S_S1x4608 (constantI S_ 32 127#32)))
      (broadcastInDim S1x4608 ![] Gen.facts.bcast_S_S1x4608 (constantI S_ 32 127#32)))
    (broadcastInDim S1x4608 ![] Gen.facts.bcast_S_S1x4608 (constantI S_ 32 23#32)))

/-- The activations as a matrix of rows. -/
def flat (X : FVec Ideal S6x1024x7168 .bf16) : FVec Ideal S6144x7168 .bf16 :=
  shapeCast S6144x7168 X Gen.facts.shapeCasts_S6x1024x7168_S6144x7168

variable (m : (ℓ : Loc nD τ sig) → Buf (Elt Ideal) ℓ) (ρ : Dev nD → PrngReg) (c : Dev nD)

theorem v1_bytes : V1 m ρ c main_arg1 = m ((c : Thread nD τ).loc main_arg1) := W1_args m ρ c main_arg1 (by decide)

theorem v1_scales : V1 m ρ c main_v3 = scalesT (m ((c : Thread nD τ).loc main_arg2)) := by
  unfold_abbrev_sides
  after_results
  rfl

theorem v1_bases : V1 m ρ c main_v6 = bases (tops (m ((c : Thread nD τ).loc main_arg2))) := by
  unfold_abbrev_sides
  after_results
  rfl

theorem v1_x : V1 m ρ c main_v2 = flat (m ((c : Thread nD τ).loc main_arg0)) := by
  unfold_abbrev_sides
  after_results
  rfl

theorem v3_x : V3 m ρ c main_v2 = flat (m ((c : Thread nD τ).loc main_arg0)) :=
  (W3_of m ρ c main_v2 (by decide)).trans ((W2_of m ρ c main_v2 (by decide +kernel)).trans (v1_x m ρ c))

theorem v3_w : V3 m ρ c main_v7 = (dat0 (V1 m ρ) c).arrAt 3 cfg0.N :=
  (W3_of m ρ c main_v7 (by decide)).trans (W2_arr m ρ c 3)

theorem w2_bases : W2 m ρ c (Proc.devRef .tc main_v6) = bases (tops (m ((c : Thread nD τ).loc main_arg2))) :=
  (W2_of m ρ c main_v6 (by decide +kernel)).trans (v1_bases m ρ c)

theorem after1 (W : Valuation τ sig (Elt Ideal)) :
    StableHlo.after hostOps1 W (Proc.devRef .tc main_v14) = colScales (W (Proc.devRef .tc main_v6)) := by
  unfold_abbrev_sides
  after_results
  rfl

theorem v3_scales : V3 m ρ c main_v14 = colScales (bases (tops (m ((c : Thread nD τ).loc main_arg2)))) :=
  (after1 (W2 m ρ c)).trans (congrArg colScales (w2_bases m ρ c))

end Cert.Mx.Host

end
-- ==== Proof.Fits.lean ====
/- The precondition read back: every activation is at most the largest finite 16-bit float in magnitude, and of every
   column of weights the greatest scale is at least 14 and at most 139 above each of the column's scales. -/
module

public import proofs.«01_k».proof.Proof.Spec
public import proofs.«01_k».proof.Proof.Rows
public import proofs.«01_k».proof.Proof.HostReads
public import proofs.«01_k».proof.Pre_fits
public import Idealize.ShloMosaic.Lib.ReduceAll
public import Idealize.ShloMosaic.Lib.Pointwise

@[expose] public section

noncomputable section

namespace Cert.Mx

open Idealize.ShloMosaic Cert.Pre_fits

instance : Subsingleton S_.Idx := ⟨fun a b => funext fun i => i.elim0⟩

/-- A comparison of extended reals that came out true. -/
theorem le_of_ole (a b : EReal) (h : Ideal.cmp .ole a b = 1#1) : a ≤ b := by
  by_contra hn
  simp [Ideal.cmp, hn] at h

/-- The greatest of finitely many words is at least each of them, and within any bound of them. -/
theorem maxsi_toInt (x y : BitVec 32) : (IntOp.maxsi x y).toInt = max x.toInt y.toInt := by
  unfold IntOp.maxsi
  by_cases h : y.toInt < x.toInt
  · simp [BitVec.slt, h, max_eq_left h.le]
  · simp [BitVec.slt, h, max_eq_right (not_lt.1 h)]
theorem minsi_toInt (x y : BitVec 32) : (IntOp.minsi x y).toInt = min x.toInt y.toInt := by
  unfold IntOp.minsi
  by_cases h : x.toInt < y.toInt
  · simp [BitVec.slt, h, min_eq_left h.le]
  · simp [BitVec.slt, h, min_eq_right (not_lt.1 h)]

theorem fold_max {ι : Type} [DecidableEq ι] (s : Finset ι) (f : ι → BitVec 32) (z : BitVec 32) :
    (s.fold IntOp.maxsi z f).toInt = s.fold max z.toInt fun k => (f k).toInt := by
  induction s using Finset.induction with
  | empty => simp
  | insert a s ha ih => rw [Finset.fold_insert ha, Finset.fold_insert ha, maxsi_toInt, ih]
theorem fold_min {ι : Type} [DecidableEq ι] (s : Finset ι) (f : ι → BitVec 32) (z : BitVec 32) :
    (s.fold IntOp.minsi z f).toInt = s.fold min z.toInt fun k => (f k).toInt := by
  induction s using Finset.induction with
  | empty => simp
  | insert a s ha ih => rw [Finset.fold_insert ha, Finset.fold_insert ha, minsi_toInt, ih]

/-- A column's least scale. -/
def lows [Facts] (C : IVec S4608x224 8) : IVec S4608 32 :=
  Host.reduce IntOp.minsi (extui 32 C Facts.natLt_8_32) (constantI S_ 32 2147483647#32) Facts.reducesTo_S4608x224_S4608_d1 Facts.h_S_

theorem tops_apply (C : IVec S4608x224 8) (n : Fin 4608) :
    Host.tops C (ix1 n) = Finset.univ.fold IntOp.maxsi 2147483648#32 fun k : Fin 224 => (C (ix2 n k)).setWidth 32 := by
  unfold Host.tops
  pointwise []
theorem lows_apply [Facts] (C : IVec S4608x224 8) (n : Fin 4608) :
    lows C (ix1 n) = Finset.univ.fold IntOp.minsi 2147483647#32 fun k : Fin 224 => (C (ix2 n k)).setWidth 32 := by
  unfold lows
  pointwise []

/-- A byte as a word. -/
theorem byte_toInt (b : BitVec 8) : (b.setWidth 32).toInt = (b.toNat : ℤ) := by
  have h := b.isLt
  rw [BitVec.toInt_eq_toNat_of_lt] <;> simp [BitVec.toNat_setWidth] <;> omega

theorem tops_ge (C : IVec S4608x224 8) (n : Fin 4608) (k : Fin 224) : ((C (ix2 n k)).toNat : ℤ) ≤ (Host.tops C (ix1 n)).toInt := by
  rw [tops_apply, fold_max]
  exact (Finset.le_fold_max _).2 (.inr ⟨k, Finset.mem_univ _, (byte_toInt _).ge⟩)
theorem tops_le (C : IVec S4608x224 8) (n : Fin 4608) : (Host.tops C (ix1 n)).toInt ≤ 255 := by
  rw [tops_apply, fold_max]
  exact (Finset.fold_max_le _).2 ⟨by decide, fun k _ => (byte_toInt _).le.trans (by have := (C (ix2 n k)).isLt; omega)⟩
theorem lows_le [Facts] (C : IVec S4608x224 8) (n : Fin 4608) (k : Fin 224) : (lows C (ix1 n)).toInt ≤ ((C (ix2 n k)).toNat : ℤ) := by
  rw [lows_apply, fold_min]
  exact (Finset.fold_min_le _).2 (.inr ⟨k, Finset.mem_univ _, (byte_toInt _).le⟩)
theorem lows_ge [Facts] (C : IVec S4608x224 8) (n : Fin 4608) : 0 ≤ (lows C (ix1 n)).toInt := by
  rw [lows_apply, fold_min]
  exact (Finset.le_fold_min _).2 ⟨by decide, fun k _ => by rw [byte_toInt]; omega⟩

/-- What the precondition says of a column's greatest scale `T`, and of one of its scales `S`. -/
structure Fits (T : BitVec 32) (S : ℕ) : Prop where
  top_ge : 14 ≤ T.toInt
  top_le : T.toInt ≤ 255
  le_top : (S : ℤ) ≤ T.toInt
  near : T.toInt - S ≤ 139

/-- A signed comparison that came out true. -/
theorem le_of_sle (a b : BitVec 32) (h : IntOp.cmpi .sle a b = 1#1) : a.toInt ≤ b.toInt := by
  by_contra hn
  simp [IntOp.cmpi, BitVec.sle, hn] at h
theorem ge_of_sge (a b : BitVec 32) (h : IntOp.cmpi .sge a b = 1#1) : b.toInt ≤ a.toInt := by
  by_contra hn
  simp [IntOp.cmpi, BitVec.sle, hn] at h

theorem and_true (a b : BitVec 1) (h : IntOp.andi a b = 1#1) : a = 1#1 ∧ b = 1#1 := by
  revert a b; decide

section
variable [Cert.Pre_fits.Facts] (X : FVec Ideal S6x1024x7168 .bf16) (B : IVec S4608x3584 8) (C : IVec S4608x224 8)
  (h : Cert.Pre_fits.fn (F := Ideal) X B C = fun _ => 1#1)
include h

theorem column_of_pre (n : Fin 4608) (k : Fin 224) : Fits (Host.tops C (ix1 n)) (C (ix2 n k)).toNat := by
  have h0 := (and_true _ _ (congrFun h (Shape.Idx.first Facts.h_S_))).1
  have h1 : IntOp.andi (IntOp.cmpi .sle (IntOp.subi (Host.tops C (ix1 n)) (lows C (ix1 n))) 139#32)
      (IntOp.cmpi .sge (Host.tops C (ix1 n)) 14#32) = 1#1 := Host.reduce_andi_all _ _ _ _ _ h0 (ix1 n)
  obtain ⟨h2, h3⟩ := and_true _ _ h1
  have h2 := le_of_sle _ _ h2
  have h3 : (14 : ℤ) ≤ _ := ge_of_sge _ _ h3
  have e : (IntOp.subi (Host.tops C (ix1 n)) (lows C (ix1 n))).toInt = (Host.tops C (ix1 n)).toInt - (lows C (ix1 n)).toInt := by
    have a1 := tops_le C n
    have a2 := lows_ge C n
    have a3 := lows_le C n k
    have a4 := (C (ix2 n k)).isLt
    unfold IntOp.subi
    rw [BitVec.toInt_sub, Int.bmod_eq_of_le (by omega) (by omega)]
  rw [e] at h2
  have h2 : (Host.tops C (ix1 n)).toInt - (lows C (ix1 n)).toInt ≤ 139 := h2
  have a3 := lows_le C n k
  exact ⟨h3, tops_le C n, tops_ge C n k, by omega⟩

/-- Every row is good. -/
theorem good_of_pre (r : Fin 6144) : Good (rowOf (Host.flat X) r) := by
  refine scaled_lt _ fun k => ?_
  have h0 := (and_true _ _ (congrFun h (Shape.Idx.first Facts.h_S_))).2
  obtain ⟨i, hi⟩ : ∃ i, rowOf (Host.flat X) r k = X i := ⟨_, rfl⟩
  rw [hi]
  exact le_of_ole _ _ (Host.reduce_andi_all _ _ _ _ _ h0 i)
end

end Cert.Mx

end
-- ==== Proof.Equation.lean ====
/- The equation: the products of codes with the kernel's decoded weights, scaled by the column and by the row, are the
   products with the reference's weights, scaled by the row. -/
module

public import proofs.«01_k».proof.Proof.DecodeBlock
public import proofs.«01_k».proof.Proof.RefArrays
public import proofs.«01_k».proof.Proof.Fits
public import Idealize.ShloMosaic.Lib.Pointwise

@[expose] public section

set_option maxRecDepth 16384

noncomputable section

namespace Cert.Mx

open Idealize.ShloMosaic

theorem coe_sum {n : ℕ} (f : Fin n → ℝ) : ((∑ k, f k : ℝ) : EReal) = ∑ k, ((f k : ℝ) : EReal) :=
  map_sum (⟨⟨Real.toEReal, rfl⟩, EReal.coe_add⟩ : ℝ →+ EReal) f Finset.univ

/-- A word is the word of its signed value. -/
theorem ofInt_of_toInt (w : BitVec 32) (z : ℤ) (h : w.toInt = z) : w = BitVec.ofInt 32 z := by
  rw [← h, BitVec.ofInt_toInt]

/-- The base of a column's exponents. -/
def base (T : BitVec 32) : BitVec 32 := IntOp.subi T 13#32

theorem base_toInt (T : BitVec 32) (h0 : 14 ≤ T.toInt) (h1 : T.toInt ≤ 255) : (base T).toInt = T.toInt - 13 := by
  unfold base IntOp.subi
  rw [BitVec.toInt_sub, show (13#32 : BitVec 32).toInt = 13 from rfl, Int.bmod_eq_of_le (by omega) (by omega)]

/-- A block's power of two. -/
theorem block_power (T : BitVec 32) (s : BitVec 8) (h : Fits T s.toNat) :
    pow2 (relExp s (base T)) = (((2 : ℝ) ^ ((s.toNat : ℤ) - T.toInt + 13) : ℝ) : EReal) := by
  obtain ⟨h0, h1, h2, h3⟩ := h
  have e : (IntOp.subi (s.setWidth 32) (base T)).toInt = (s.toNat : ℤ) - T.toInt + 13 := by
    unfold IntOp.subi
    rw [BitVec.toInt_sub, base_toInt T h0 h1, byte_toInt, Int.bmod_eq_of_le (by omega) (by omega)]
    omega
  rw [relExp, ofInt_of_toInt (IntOp.maxsi _ _) _ ((maxsi_toInt _ _).trans (by
    rw [e, show (4294967169#32 : BitVec 32).toInt = -127 from rfl, max_eq_left (by omega)]))]
  exact pow2_ofInt _ (by omega) (by omega)

/-- A column's power of two. -/
theorem column_power (T : BitVec 32) (h0 : 14 ≤ T.toInt) (h1 : T.toInt ≤ 255) :
    pow2 (IntOp.subi (base T) 127#32) = (((2 : ℝ) ^ (T.toInt - 140) : ℝ) : EReal) := by
  have e : (IntOp.subi (base T) 127#32).toInt = T.toInt - 140 := by
    unfold IntOp.subi
    rw [BitVec.toInt_sub, base_toInt T h0 h1, show (127#32 : BitVec 32).toInt = 127 from rfl, Int.bmod_eq_of_le (by omega) (by omega)]
    omega
  rw [ofInt_of_toInt _ _ e]
  exact pow2_ofInt _ (by omega) (by omega)

theorem lit_127 : Ideal.ofBits .f32 0x42FE0000#32 = ((127 : ℝ) : EReal) := by
  simp [Ideal.ofBits, Ideal.ieee]
  norm_cast
  norm_num

/-- The reference's power of two. -/
theorem ref_block_power (s : BitVec 8) : Ideal.exp2 ((((s.setWidth 32).toInt : ℝ) : EReal) - Ideal.ofBits .f32 0x42FE0000#32)
    = (((2 : ℝ) ^ ((s.toNat : ℤ) - 127) : ℝ) : EReal) := by
  rw [lit_127, byte_toInt, ← exp2_int]
  push_cast
  norm_cast

/-- The kernel's weight times the column's power is the reference's weight; the kernel's weight is real. -/
theorem weight_column (b s : BitVec 8) (T : BitVec 32) (k : ℕ) (h : Fits T s.toNat) :
    ∃ w : ℝ, weight b s (base T) k = (w : EReal)
      ∧ refWeight b s k = ((w * (2 : ℝ) ^ (T.toInt - 140) : ℝ) : EReal) := by
  obtain ⟨v, hv⟩ := signed_real b k
  refine ⟨v * (2 : ℝ) ^ ((s.toNat : ℤ) - T.toInt + 13), ?_, ?_⟩
  · rw [weight, signed_half, hv, block_power T s h, EReal.coe_mul]
  · rw [refWeight, hv, ref_block_power, ← EReal.coe_mul, EReal.coe_eq_coe_iff, mul_assoc, ← zpow_add₀ (by norm_num : (2 : ℝ) ≠ 0)]
    congr 2
    omega

theorem lit_max : Ideal.ofBits .f32 0x43E00000#32 = ((448 : ℝ) : EReal) := by
  simp [Ideal.ofBits, Ideal.ieee]
  norm_cast
  norm_num
theorem lit_min : Ideal.ofBits .f32 0xC3E00000#32 = ((-448 : ℝ) : EReal) := by
  simp [Ideal.ofBits, Ideal.ieee]
  norm_cast
  norm_num

/-- A code is a real number: it is clipped. -/
theorem code_real (x e : EReal) : ∃ z : ℝ, code x e = (z : EReal) := by
  have h1 : code x e ≤ ((448 : ℝ) : EReal) := by rw [code, lit_max]; exact min_le_left _ _
  have h2 : ((-448 : ℝ) : EReal) ≤ code x e := by
    rw [code, lit_max, lit_min]
    exact le_min (EReal.coe_le_coe_iff.2 (by norm_num)) (le_max_left _ _)
  exact ⟨(code x e).toReal, (EReal.coe_toReal (fun h => by simp [h] at h1) (fun h => by simp [h] at h2)).symm⟩

/-- A real factor moves into a sum of products of real numbers. -/
theorem sum_scaled {n : ℕ} (f g g' : Fin n → EReal) (s : ℝ) (hf : ∀ k, ∃ z : ℝ, f k = (z : EReal))
    (hg : ∀ k, ∃ w : ℝ, g k = (w : EReal) ∧ g' k = ((w * s : ℝ) : EReal)) :
    (∑ k, f k * g k) * (s : EReal) = ∑ k, f k * g' k := by
  choose z hz using hf
  choose w hw hw' using hg
  simp only [hz, hw, hw']
  have e1 : (∑ k, ((z k : ℝ) : EReal) * ((w k : ℝ) : EReal)) = ((∑ k, z k * w k : ℝ) : EReal) := by
    rw [coe_sum]; exact Finset.sum_congr rfl fun k _ => (EReal.coe_mul _ _).symm
  have e2 : (∑ k, ((z k : ℝ) : EReal) * ((w k * s : ℝ) : EReal)) = ((∑ k, z k * (w k * s) : ℝ) : EReal) := by
    rw [coe_sum]; exact Finset.sum_congr rfl fun k _ => (EReal.coe_mul _ _).symm
  rw [e1, e2, ← EReal.coe_mul, EReal.coe_eq_coe_iff, Finset.sum_mul]
  exact Finset.sum_congr rfl fun k _ => by ring

open Cert.KernelIdeal in
theorem scalesT_apply (C : IVec S4608x224 8) (k : Fin 224) (n : Fin 4608) : Host.scalesT C (ix2 k n) = C (ix2 n k) := by
  unfold Host.scalesT
  pointwise []

open Cert.KernelIdeal in
theorem bases_apply (T : IVec S4608 32) (n : Fin 4608) : Host.bases T (ix2 0 n) = base (T (ix1 n)) := by
  unfold Host.bases base
  pointwise []

open Cert.KernelIdeal in
theorem colScales_apply (b : IVec S1x4608 32) (n : Fin 4608) :
    Host.colScales b (ix2 0 n) = pow2 (IntOp.subi (b (ix2 0 n)) 127#32) := by
  unfold Host.colScales pow2 field
  pointwise []
  rfl

open Cert.KernelIdeal in
/-- The products agree where the columns' scales fit. -/
theorem products_eq (X : S6144x7168.Idx → EReal) (B : IVec S4608x3584 8) (C : IVec S4608x224 8)
    (hf : ∀ n k, Fits (Host.tops C (ix1 n)) (C (ix2 n k)).toNat) :
    specY X (Decode.arrW B (Host.scalesT C) (Host.bases (Host.tops C))) (Host.colScales (Host.bases (Host.tops C)))
      = Ref.specP X B C := by
  funext j
  obtain ⟨r, n, rfl⟩ : ∃ (r : Fin 6144) (n : Fin 4608), j = ix2 r n := ⟨j 0, j 1, ValueIdx.eq_ix2 j⟩
  have hs : Host.colScales (Host.bases (Host.tops C)) (ix2 0 n) = (((2 : ℝ) ^ ((Host.tops C (ix1 n)).toInt - 140) : ℝ) : EReal) := by
    rw [colScales_apply, bases_apply]
    exact column_power _ (hf n 0).top_ge (hf n 0).top_le
  have hw : ∀ k : Fin 7168, Decode.arrW B (Host.scalesT C) (Host.bases (Host.tops C)) (ix2 k n)
      = weight (B (ix2 n ⟨k.val / 2, by omega⟩)) (C (ix2 n ⟨k.val / 32, by omega⟩)) (base (Host.tops C (ix1 n))) k.val := by
    intro k
    show weight _ (Host.scalesT C (ix2 ⟨k.val / 32, _⟩ n)) (Host.bases (Host.tops C) (ix2 0 n)) _ = _
    rw [scalesT_apply, bases_apply]
    rfl
  show (∑ k : Fin 7168, code (X (ix2 r k)) (rowExp (rowOf X r)) * Decode.arrW B (Host.scalesT C) (Host.bases (Host.tops C)) (ix2 k n))
      * Host.colScales (Host.bases (Host.tops C)) (ix2 0 n) * Ideal.exp2 (rowExp (rowOf X r))
    = (∑ k : Fin 7168, code (X (ix2 r k)) (rowExp (rowOf X r))
        * refWeight (B (ix2 n ⟨k.val / 2, _⟩)) (C (ix2 n ⟨k.val / 32, _⟩)) k.val) * Ideal.exp2 (rowExp (rowOf X r))
  refine congrArg (· * Ideal.exp2 (rowExp (rowOf X r))) ?_
  rw [hs]
  refine sum_scaled _ _ _ _ (fun k => code_real _ _) fun k => ?_
  rw [hw k]
  exact weight_column _ _ _ _ (hf n _)

end Cert.Mx

end
-- ==== Proof.SlowStep.lean ====
/- One grid point of the call for widely spread scales: the codes and scales it stores for its rows, its update of the
   accumulator, and what loads and stores over whole buffers leave. -/
module

public import proofs.«01_k».proof.Proof.Gen.SlowIdeal.Frame
public import proofs.«01_k».proof.Proof.Gen.SlowIdeal.Skeleton
public import Idealize.ShloMosaic.Lib.WholeRead

@[expose] public section

set_option maxRecDepth 16384

noncomputable section

namespace Cert.SlowIdeal.Hand

open Cert.SlowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x7168 .bf16) (harg3 : arg3.IsWhole)
  (arg4 : Memref sig .tc .vmem S512x512 .i8) (harg4 : arg4.IsWhole) (arg5 : Memref sig .tc .vmem S32x512 .i8) (harg5 : arg5.IsWhole)
  (arg6 : Memref sig .tc .vmem S256x512 .bf16) (harg6 : arg6.IsWhole) (arg7 : Memref sig .tc .vmem S256x7168 .fp8e4m3) (harg7 : arg7.IsWhole)
  (arg8 : Memref sig .tc .vmem S1x1x256 .f32) (harg8 : arg8.IsWhole) (arg9 : Memref sig .tc .vmem S256x512 .f32) (harg9 : arg9.IsWhole)
  (x0 : Vec F S256x7168 .bf16) (x1 : Vec F S512x512 .i8) (x2 : Vec F S32x512 .i8)
  (x3 : Vec F S256x512 .bf16) (x4 : Vec F S256x7168 .fp8e4m3) (x5 : Vec F S1x1x256 .f32) (acc : Vec F S256x512 .f32)

/-- The codes a grid point with `k = 0` stores for its block of activations. -/
def codesOf (x0 : Vec F S256x7168 .bf16) : Vec F S256x7168 .fp8e4m3 :=
  k0_pay9 (k0_pay3 x0) (k0_pay8 (k0_pay4 x0) (k0_pay5 x0) (k0_pay6 x0) k0_pay7) 0#32

/-- The row scales that grid point stores. -/
def scalesOf (x0 : Vec F S256x7168 .bf16) : Vec F S1x1x256 .f32 :=
  k0_pay10 (F := F) (k0_pay8 (k0_pay4 x0) (k0_pay5 x0) (k0_pay6 x0) k0_pay7)

/-- The weight bytes of one of the four chunks of a grid point. -/
abbrev wchunk0 (x1 : Vec F S512x512 .i8) : Vec F S512x128 .i8 :=
  View.ld x1 (Rect.unit (s := S512x512) ![0, 0] S512x128.size inb_S512x512_S512x128_0_0)
abbrev wchunk1 (x1 : Vec F S512x512 .i8) : Vec F S512x128 .i8 :=
  View.ld x1 (Rect.unit (s := S512x512) ![0, 128] S512x128.size inb_S512x512_S512x128_0_128)
abbrev wchunk2 (x1 : Vec F S512x512 .i8) : Vec F S512x128 .i8 :=
  View.ld x1 (Rect.unit (s := S512x512) ![0, 256] S512x128.size inb_S512x512_S512x128_0_256)
abbrev wchunk3 (x1 : Vec F S512x512 .i8) : Vec F S512x128 .i8 :=
  View.ld x1 (Rect.unit (s := S512x512) ![0, 384] S512x128.size inb_S512x512_S512x128_0_384)

/-- The four chunk updates of one grid point, one after another: from the weight block `x1`, the block `x2` of
    its scales, the codes `a` of the rows, and the accumulator. -/
def step (i : grid0.Coords) (x1 : Vec F S512x512 .i8) (x2 : Vec F S32x512 .i8) (a : Vec F S256x7168 .fp8e4m3)
    (acc : Vec F S256x512 .f32) : Vec F S256x512 .f32 :=
  k0_pay1 (k0_pay30 (wchunk3 x1))
    (View.ld x2 (Rect.unit (s := S32x512) ![24, 0] S8x512.size inb_S32x512_S8x512_24_0))
    (View.ld a (Rect.unit (s := S256x7168) (k0_off1 i 768#32) S256x256.size (k0_off1_inb i 3)))
    (k0_pay29 (k0_pay28 (k0_pay22 (wchunk2 x1)) (k0_pay23 (wchunk2 x1)) (k0_pay24 (wchunk2 x1)) (k0_pay25 (wchunk2 x1))
        (k0_pay26 (wchunk2 x1)) k0_pay27
      (View.ld x2 (Rect.unit (s := S32x512) ![16, 0] S8x512.size inb_S32x512_S8x512_16_0))
      (View.ld a (Rect.unit (s := S256x7168) (k0_off1 i 512#32) S256x256.size (k0_off1_inb i 2)))
      (k0_pay21 (k0_pay19 (k0_pay17 (wchunk1 x1)) (k0_pay18 (wchunk1 x1)))
        (k0_pay20 (View.ld x2 (Rect.unit (s := S32x512) ![8, 0] S8x512.size inb_S32x512_S8x512_8_0)))
        (View.ld a (Rect.unit (s := S256x7168) (k0_off1 i 256#32) S256x256.size (k0_off1_inb i 1)))
        (k0_pay15 (k0_pay13 (wchunk0 x1)) (k0_pay14 (wchunk0 x1))
          (View.ld x2 (Rect.unit (s := S32x512) ![0, 0] S8x512.size inb_S32x512_S8x512_0_0))
          (View.ld a (Rect.unit (s := S256x7168) (k0_off1 i 0#32) S256x256.size (k0_off1_inb i 0)))
          acc))))

/-- Two zero offsets, as a function, and three. -/
theorem zeros2 : (![0, 0] : Fin 2 → ℕ) = fun _ => 0 := by funext a; fin_cases a <;> rfl
theorem zeros3 : (![0, 0, 0] : Fin 3 → ℕ) = fun _ => 0 := by funext a; fin_cases a <;> rfl

/-- A store over a whole buffer leaves its payload, whatever was there and whatever was stored before. -/
theorem read_whole_store {κ : _} {sp : _} {S : Shape} {e : _} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  funext y
  have := View.read_writes_cons_emb (Val := Elt F) v f (Rect.whole S) w L y
  rwa [Rect.emb_whole_apply] at this

/-- A load through a box of a buffer last stored over whole reads the stored payload at that box. -/
theorem readCov_whole_store {κ : _} {sp : _} {S : Shape} {e : _} (v : View sig κ sp S e) {off : Fin S.rank → ℕ}
    (h : off = fun _ => 0) (inb : ∀ a, off a + S.size a ≤ S.size a) (w : S.Idx → Elt F e) (L : List (View.Piece (Elt F) S e))
    (r : Rect S) : v.readCov (⟨Rect.unit off S.size inb, w⟩ :: L) r.toLoadRect = View.ld w r :=
  funext fun j => congrFun (read_whole_store v v.junk h inb w L) (r.idx j)

/-- The same for the buffer of codes. -/
theorem readCov_codes (v : View sig .tc .vmem S256x7168 .fp8e4m3) (w : Vec F S256x7168 .fp8e4m3) (L : List (View.Piece (Elt F) S256x7168 .fp8e4m3))
    (r : Rect S256x7168) : v.readCov (⟨Rect.unit (s := S256x7168) ![0, 0] S256x7168.size inb_S256x7168_S256x7168_0_0, w⟩ :: L) r.toLoadRect = View.ld w r :=
  readCov_whole_store v zeros2 _ w L r

/-- The same, spelled as a read of the contents the stores leave. -/
theorem readAt_codes (v : View sig .tc .vmem S256x7168 .fp8e4m3) (w : Vec F S256x7168 .fp8e4m3) (L : List (View.Piece (Elt F) S256x7168 .fp8e4m3))
    (r : Rect S256x7168) : View.readAt (Elt F) v r.toLoadRect (v.writes (Elt F) v.junk
      (⟨Rect.unit (s := S256x7168) ![0, 0] ![256, 7168] inb_S256x7168_S256x7168_0_0, w⟩ :: L)) = View.ld w r :=
  readCov_whole_store v zeros2 _ w L r

end Cert.SlowIdeal.Hand

end
-- ==== Proof.SlowRunA.lean ====
/- The body of the call for widely spread scales at the first block of products: codes and scales are stored, the
   accumulator is zeroed and updated. -/
module

public import proofs.«01_k».proof.Proof.Gen.SlowIdeal.Frame
public import proofs.«01_k».proof.Proof.Gen.SlowIdeal.Skeleton
public import Idealize.ShloMosaic.Lib.WholeRead
public import proofs.«01_k».proof.Proof.SlowStep

@[expose] public section

set_option maxRecDepth 16384

noncomputable section

namespace Cert.SlowIdeal.Hand

open Cert.SlowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x7168 .bf16) (harg3 : arg3.IsWhole)
  (arg4 : Memref sig .tc .vmem S512x512 .i8) (harg4 : arg4.IsWhole) (arg5 : Memref sig .tc .vmem S32x512 .i8) (harg5 : arg5.IsWhole)
  (arg6 : Memref sig .tc .vmem S256x512 .bf16) (harg6 : arg6.IsWhole) (arg7 : Memref sig .tc .vmem S256x7168 .fp8e4m3) (harg7 : arg7.IsWhole)
  (arg8 : Memref sig .tc .vmem S1x1x256 .f32) (harg8 : arg8.IsWhole) (arg9 : Memref sig .tc .vmem S256x512 .f32) (harg9 : arg9.IsWhole)
  (x0 : Vec F S256x7168 .bf16) (x1 : Vec F S512x512 .i8) (x2 : Vec F S32x512 .i8)
  (x3 : Vec F S256x512 .bf16) (x4 : Vec F S256x7168 .fp8e4m3) (x5 : Vec F S1x1x256 .f32) (acc : Vec F S256x512 .f32)

set_option maxHeartbeats 1000000 in
/-- The body where a block of rows starts (`k = 0`): it stores the codes and the row scales of its rows, zeroes the accumulator and takes one step. -/
theorem runA (hc0 : k0_cond1 i = 1#1) (hc1 : ¬ k0_cond2 i = 1#1) (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare acc
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare (codesOf x0)
            ∗ owns (c : Thread nD τ) arg8 fullShare (scalesOf x0)
            ∗ owns (c : Thread nD τ) arg9 fullShare (step i x1 x2 (codesOf x0) k0_pay11)) -∗ K ⟨⟩))
      ⊢ wp frame (wpE (defs₀ (F := F)) Variants.none c none) E
          (cc0_qmm_slow i arg3 harg3 arg4 harg4 arg5 harg5 arg6 harg6 arg7 harg7 arg8 harg8 arg9 harg9) K := by
  simp only [cc0_qmm_slow_eq_skeleton]; unfold cc0_qmm_slow_skel
  simp only [k0_part3_eq_skeleton, k0_part1_eq_skeleton, k0_part2_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5; obtain rfl := harg9.eq_unread hfs0
  sl_exec (disch := first | sl_exact hc0 | sl_exact hc1)
  sl_step
  have e3 : View.readAt (Elt F) arg3.view (Rect.unit (s := S256x7168) ![0, 0] S256x7168.size inb_S256x7168_S256x7168_0_0).toLoadRect (harg3.unread x0) = x0 :=
    (congrArg (fun y => View.ld y _) (harg3.read_unread x0)).trans (View.ld_unit_zero (S := S256x7168) zeros2 _ x0)
  have e4 : ∀ r : Rect S512x512, View.readAt (Elt F) arg4.view r.toLoadRect (harg4.unread x1) = View.ld x1 r :=
    fun r => congrArg (fun y => View.ld y r) (harg4.read_unread x1)
  have e5 : ∀ r : Rect S32x512, View.readAt (Elt F) arg5.view r.toLoadRect (harg5.unread x2) = View.ld x2 r :=
    fun r => congrArg (fun y => View.ld y r) (harg5.read_unread x2)
  have e7 : ∀ r : Rect S256x7168, View.readAt (Elt F) arg7.view r.toLoadRect (harg7.unread x4) = View.ld x4 r :=
    fun r => congrArg (fun y => View.ld y r) (harg7.read_unread x4)
  have e8 : View.readAt (Elt F) arg8.view (Rect.unit (s := S1x1x256) ![0, 0, 0] S1x1x256.size inb_S1x1x256_S1x1x256_0_0_0).toLoadRect (harg8.unread x5) = x5 :=
    (congrArg (fun y => View.ld y _) (harg8.read_unread x5)).trans (View.ld_unit_zero (S := S1x1x256) zeros3 _ x5)
  have e9 : View.readAt (Elt F) arg9.view (Rect.unit (s := S256x512) ![0, 0] S256x512.size inb_S256x512_S256x512_0_0).toLoadRect (harg9.unread acc) = acc :=
    (congrArg (fun y => View.ld y _) (harg9.read_unread acc)).trans (View.ld_unit_zero (S := S256x512) zeros2 _ acc)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (read_whole_store arg7.view _ zeros2 _ _ _).trans ?_
    delta runA.sl.r runA.sl.r_1 runA.sl.r_2 runA.sl.r_3 runA.sl.r_4
    simp only [View.readCov_cons_toLoadRect, readCov_codes, readAt_codes, e3, e4, e5, e7, e8, e9]
    rfl
  isplitl [H5]
  · iexists _; isplitr
    swap; · iexact H5
    ipureintro
    refine (read_whole_store arg8.view _ zeros3 _ _ _).trans ?_
    delta runA.sl.r runA.sl.r_1 runA.sl.r_2 runA.sl.r_3 runA.sl.r_4
    simp only [View.readCov_cons_toLoadRect, readCov_codes, readAt_codes, e3, e4, e5, e7, e8, e9]
    rfl
  iexists _; isplitr
  swap; · iexact HS0
  ipureintro
  refine (read_whole_store arg9.view _ zeros2 _ _ _).trans ?_
  delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.HS0_1 runA.sl.HS0_2 runA.sl.HS0_3 runA.sl.HS0_4 runA.sl.H4_1 runA.sl.v268 runA.sl.v129 runA.sl.v200 runA.sl.v197 runA.sl.v64 runA.sl.v265 runA.sl.v132 runA.sl.v61
  simp only [View.readCov_cons_toLoadRect, readCov_codes, readAt_codes, e3, e4, e5, e7, e8, e9]
  rfl

end Cert.SlowIdeal.Hand

end
-- ==== Proof.SlowRunB.lean ====
/- The body of the call for widely spread scales at a middle block of products: the accumulator is updated. -/
module

public import proofs.«01_k».proof.Proof.Gen.SlowIdeal.Frame
public import proofs.«01_k».proof.Proof.Gen.SlowIdeal.Skeleton
public import Idealize.ShloMosaic.Lib.WholeRead
public import proofs.«01_k».proof.Proof.SlowStep

@[expose] public section

set_option maxRecDepth 16384

noncomputable section

namespace Cert.SlowIdeal.Hand

open Cert.SlowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x7168 .bf16) (harg3 : arg3.IsWhole)
  (arg4 : Memref sig .tc .vmem S512x512 .i8) (harg4 : arg4.IsWhole) (arg5 : Memref sig .tc .vmem S32x512 .i8) (harg5 : arg5.IsWhole)
  (arg6 : Memref sig .tc .vmem S256x512 .bf16) (harg6 : arg6.IsWhole) (arg7 : Memref sig .tc .vmem S256x7168 .fp8e4m3) (harg7 : arg7.IsWhole)
  (arg8 : Memref sig .tc .vmem S1x1x256 .f32) (harg8 : arg8.IsWhole) (arg9 : Memref sig .tc .vmem S256x512 .f32) (harg9 : arg9.IsWhole)
  (x0 : Vec F S256x7168 .bf16) (x1 : Vec F S512x512 .i8) (x2 : Vec F S32x512 .i8)
  (x3 : Vec F S256x512 .bf16) (x4 : Vec F S256x7168 .fp8e4m3) (x5 : Vec F S1x1x256 .f32) (acc : Vec F S256x512 .f32)

set_option maxHeartbeats 1000000 in
/-- The body in the middle: one step of the accumulator, nothing else stored. -/
theorem runB (hc0 : ¬ k0_cond1 i = 1#1) (hc1 : ¬ k0_cond2 i = 1#1) (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare acc
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare (step i x1 x2 x4 acc)) -∗ K ⟨⟩))
      ⊢ wp frame (wpE (defs₀ (F := F)) Variants.none c none) E
          (cc0_qmm_slow i arg3 harg3 arg4 harg4 arg5 harg5 arg6 harg6 arg7 harg7 arg8 harg8 arg9 harg9) K := by
  simp only [cc0_qmm_slow_eq_skeleton]; unfold cc0_qmm_slow_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5; obtain rfl := harg9.eq_unread hfs0
  sl_exec (disch := first | sl_exact hc0 | sl_exact hc1)
  sl_step
  have e3 : View.readAt (Elt F) arg3.view (Rect.unit (s := S256x7168) ![0, 0] S256x7168.size inb_S256x7168_S256x7168_0_0).toLoadRect (harg3.unread x0) = x0 :=
    (congrArg (fun y => View.ld y _) (harg3.read_unread x0)).trans (View.ld_unit_zero (S := S256x7168) zeros2 _ x0)
  have e4 : ∀ r : Rect S512x512, View.readAt (Elt F) arg4.view r.toLoadRect (harg4.unread x1) = View.ld x1 r :=
    fun r => congrArg (fun y => View.ld y r) (harg4.read_unread x1)
  have e5 : ∀ r : Rect S32x512, View.readAt (Elt F) arg5.view r.toLoadRect (harg5.unread x2) = View.ld x2 r :=
    fun r => congrArg (fun y => View.ld y r) (harg5.read_unread x2)
  have e7 : ∀ r : Rect S256x7168, View.readAt (Elt F) arg7.view r.toLoadRect (harg7.unread x4) = View.ld x4 r :=
    fun r => congrArg (fun y => View.ld y r) (harg7.read_unread x4)
  have e8 : View.readAt (Elt F) arg8.view (Rect.unit (s := S1x1x256) ![0, 0, 0] S1x1x256.size inb_S1x1x256_S1x1x256_0_0_0).toLoadRect (harg8.unread x5) = x5 :=
    (congrArg (fun y => View.ld y _) (harg8.read_unread x5)).trans (View.ld_unit_zero (S := S1x1x256) zeros3 _ x5)
  have e9 : View.readAt (Elt F) arg9.view (Rect.unit (s := S256x512) ![0, 0] S256x512.size inb_S256x512_S256x512_0_0).toLoadRect (harg9.unread acc) = acc :=
    (congrArg (fun y => View.ld y _) (harg9.read_unread acc)).trans (View.ld_unit_zero (S := S256x512) zeros2 _ acc)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  refine (read_whole_store arg9.view _ zeros2 _ _ _).trans ?_
  delta runB.sl.r_12 runB.sl.HS0_3 runB.sl.v268 runB.sl.r_11 runB.sl.HS0_2 runB.sl.v200 runB.sl.r_10 runB.sl.r_9 runB.sl.r_8 runB.sl.r_7 runB.sl.r_6 runB.sl.r_5 runB.sl.r_4 runB.sl.r_3 runB.sl.HS0_1 runB.sl.v132 runB.sl.r_2 runB.sl.r_1 runB.sl.r
  simp only [View.readCov_cons_toLoadRect, readCov_codes, e3, e4, e5, e7, e8, e9]
  rfl

end Cert.SlowIdeal.Hand

end
-- ==== Proof.SlowRunC.lean ====
/- The body of the call for widely spread scales at the last block of products: the accumulator is updated, and its
   scaled values are stored as results. -/
module

public import proofs.«01_k».proof.Proof.Gen.SlowIdeal.Frame
public import proofs.«01_k».proof.Proof.Gen.SlowIdeal.Skeleton
public import Idealize.ShloMosaic.Lib.WholeRead
public import proofs.«01_k».proof.Proof.SlowStep

@[expose] public section

set_option maxRecDepth 16384

noncomputable section

namespace Cert.SlowIdeal.Hand

open Cert.SlowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x7168 .bf16) (harg3 : arg3.IsWhole)
  (arg4 : Memref sig .tc .vmem S512x512 .i8) (harg4 : arg4.IsWhole) (arg5 : Memref sig .tc .vmem S32x512 .i8) (harg5 : arg5.IsWhole)
  (arg6 : Memref sig .tc .vmem S256x512 .bf16) (harg6 : arg6.IsWhole) (arg7 : Memref sig .tc .vmem S256x7168 .fp8e4m3) (harg7 : arg7.IsWhole)
  (arg8 : Memref sig .tc .vmem S1x1x256 .f32) (harg8 : arg8.IsWhole) (arg9 : Memref sig .tc .vmem S256x512 .f32) (harg9 : arg9.IsWhole)
  (x0 : Vec F S256x7168 .bf16) (x1 : Vec F S512x512 .i8) (x2 : Vec F S32x512 .i8)
  (x3 : Vec F S256x512 .bf16) (x4 : Vec F S256x7168 .fp8e4m3) (x5 : Vec F S1x1x256 .f32) (acc : Vec F S256x512 .f32)

set_option maxHeartbeats 1000000 in
/-- The body at the last `k`: one step, then the scaled accumulator is stored as the block of results. -/
theorem runC (hc0 : ¬ k0_cond1 i = 1#1) (hc1 : k0_cond2 i = 1#1) (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare acc
        ∗ (iprop(owns (c : Thread nD τ) arg3 fullShare x0
            ∗ owns (c : Thread nD τ) arg4 fullShare x1
            ∗ owns (c : Thread nD τ) arg5 fullShare x2
            ∗ owns (c : Thread nD τ) arg6 fullShare (k0_pay2 (step i x1 x2 x4 acc) x5)
            ∗ owns (c : Thread nD τ) arg7 fullShare x4
            ∗ owns (c : Thread nD τ) arg8 fullShare x5
            ∗ owns (c : Thread nD τ) arg9 fullShare (step i x1 x2 x4 acc)) -∗ K ⟨⟩))
      ⊢ wp frame (wpE (defs₀ (F := F)) Variants.none c none) E
          (cc0_qmm_slow i arg3 harg3 arg4 harg4 arg5 harg5 arg6 harg6 arg7 harg7 arg8 harg8 arg9 harg9) K := by
  simp only [cc0_qmm_slow_eq_skeleton]; unfold cc0_qmm_slow_skel
  simp only [k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5; obtain rfl := harg9.eq_unread hfs0
  sl_exec (disch := first | sl_exact hc0 | sl_exact hc1)
  sl_step
  have e3 : View.readAt (Elt F) arg3.view (Rect.unit (s := S256x7168) ![0, 0] S256x7168.size inb_S256x7168_S256x7168_0_0).toLoadRect (harg3.unread x0) = x0 :=
    (congrArg (fun y => View.ld y _) (harg3.read_unread x0)).trans (View.ld_unit_zero (S := S256x7168) zeros2 _ x0)
  have e4 : ∀ r : Rect S512x512, View.readAt (Elt F) arg4.view r.toLoadRect (harg4.unread x1) = View.ld x1 r :=
    fun r => congrArg (fun y => View.ld y r) (harg4.read_unread x1)
  have e5 : ∀ r : Rect S32x512, View.readAt (Elt F) arg5.view r.toLoadRect (harg5.unread x2) = View.ld x2 r :=
    fun r => congrArg (fun y => View.ld y r) (harg5.read_unread x2)
  have e7 : ∀ r : Rect S256x7168, View.readAt (Elt F) arg7.view r.toLoadRect (harg7.unread x4) = View.ld x4 r :=
    fun r => congrArg (fun y => View.ld y r) (harg7.read_unread x4)
  have e8 : View.readAt (Elt F) arg8.view (Rect.unit (s := S1x1x256) ![0, 0, 0] S1x1x256.size inb_S1x1x256_S1x1x256_0_0_0).toLoadRect (harg8.unread x5) = x5 :=
    (congrArg (fun y => View.ld y _) (harg8.read_unread x5)).trans (View.ld_unit_zero (S := S1x1x256) zeros3 _ x5)
  have e9 : View.readAt (Elt F) arg9.view (Rect.unit (s := S256x512) ![0, 0] S256x512.size inb_S256x512_S256x512_0_0).toLoadRect (harg9.unread acc) = acc :=
    (congrArg (fun y => View.ld y _) (harg9.read_unread acc)).trans (View.ld_unit_zero (S := S256x512) zeros2 _ acc)
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (read_whole_store arg6.view _ zeros2 _ _ _).trans ?_
    delta runC.sl.r_12 runC.sl.HS0_3 runC.sl.v268 runC.sl.r_11 runC.sl.HS0_2 runC.sl.v200 runC.sl.r_10 runC.sl.r_9 runC.sl.r_8 runC.sl.r_7 runC.sl.r_6 runC.sl.r_5 runC.sl.r_4 runC.sl.r_3 runC.sl.HS0_1 runC.sl.v132 runC.sl.r_2 runC.sl.r_1 runC.sl.r runC.sl.HS0_4 runC.sl.v278
    simp only [View.readCov_cons_toLoadRect, readCov_codes, e3, e4, e5, e7, e8, e9]
    rfl
  isplitl [H4]
  · iexists _; isplitr; · ipureintro; exact harg7.read_unread _
    iexact H4
  isplitl [H5]
  · iexists _; isplitr; · ipureintro; exact harg8.read_unread _
    iexact H5
  iexists _; isplitr
  swap; · iexact HS0
  ipureintro
  refine (read_whole_store arg9.view _ zeros2 _ _ _).trans ?_
  delta runC.sl.r_12 runC.sl.HS0_3 runC.sl.v268 runC.sl.r_11 runC.sl.HS0_2 runC.sl.v200 runC.sl.r_10 runC.sl.r_9 runC.sl.r_8 runC.sl.r_7 runC.sl.r_6 runC.sl.r_5 runC.sl.r_4 runC.sl.r_3 runC.sl.HS0_1 runC.sl.v132 runC.sl.r_2 runC.sl.r_1 runC.sl.r runC.sl.HS0_4 runC.sl.v278
  simp only [View.readCov_cons_toLoadRect, readCov_codes, e3, e4, e5, e7, e8, e9]
  rfl

end Cert.SlowIdeal.Hand

end
-- ==== Proof.SlowFrame.lean ====
/- The frame of the slow call: what its buffers hold point by point, and the run of the whole grid. -/
module

public import proofs.«01_k».proof.Proof.SlowRunA
public import proofs.«01_k».proof.Proof.SlowRunB
public import proofs.«01_k».proof.Proof.SlowRunC
public import Idealize.ShloMosaic.Lib.Pipeline.TableIdle
public import Idealize.ShloMosaic.Lib.Claim
public import Idealize.ShloMosaic.Lib.WordCmp

@[expose] public section

set_option maxRecDepth 16384

noncomputable section

namespace Cert.SlowIdeal.Hand

open Cert.SlowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, and when each output is idle, from the position alone -/

/-- The grid has 1512 points. -/
theorem lt_N (t : Fin cfg0.N) : t.val < 1512 := Nat.lt_of_lt_of_eq t.isLt N_0

/-- The branch that starts a block of results is taken at its first point, -/
theorem first_iff (t : Fin cfg0.N) : k0_cond1 (grid0.coords t) = 1#1 ↔ t.val % 7 = 0 := by
  have ht := lt_N t
  have e0 : (grid0.coords t 0).val = t.val / 63 % 24 := Pipeline.Grid.coords_val t 0 (by decide) rfl
  have e1 : (grid0.coords t 1).val = t.val / 7 % 9 := Pipeline.Grid.coords_val t 1 (by decide) rfl
  have e2 : (grid0.coords t 2).val = t.val / 1 % 7 := Pipeline.Grid.coords_val t 2 (by decide) rfl
  simp only [k0_cond1, e0, e1, e2]
  word_cmp

/-- and the branch that stores the results at its last. -/
theorem last_iff (t : Fin cfg0.N) : k0_cond2 (grid0.coords t) = 1#1 ↔ t.val % 7 = 6 := by
  have ht := lt_N t
  have e0 : (grid0.coords t 0).val = t.val / 63 % 24 := Pipeline.Grid.coords_val t 0 (by decide) rfl
  have e1 : (grid0.coords t 1).val = t.val / 7 % 9 := Pipeline.Grid.coords_val t 1 (by decide) rfl
  have e2 : (grid0.coords t 2).val = t.val / 1 % 7 := Pipeline.Grid.coords_val t 2 (by decide) rfl
  simp only [k0_cond2, e0, e1, e2]
  word_cmp

/-- The block of results is stored at the last `k` only, the codes and the scales at the first only. -/
theorem idle3 (t : Fin cfg0.N) : cfg0.idle 3 (grid0.coords t) = true ↔ t.val % 7 ≠ 6 := by
  show (!(k0_cond2 (grid0.coords t) == 1#1)) = true ↔ _
  rw [Bool.not_eq_true', beq_eq_false_iff_ne, Ne, last_iff]
theorem idle4 (t : Fin cfg0.N) : cfg0.idle 4 (grid0.coords t) = true ↔ t.val % 7 ≠ 0 := by
  show (!(k0_cond1 (grid0.coords t) == 1#1)) = true ↔ _
  rw [Bool.not_eq_true', beq_eq_false_iff_ne, Ne, first_iff]
theorem idle5 (t : Fin cfg0.N) : cfg0.idle 5 (grid0.coords t) = true ↔ t.val % 7 ≠ 0 := idle4 t

/-- Inside a block of rows the buffers of the codes and of the scales hold what was stored at its start. -/
theorem fresh_false (w : Fin cfg0.W) (hf : ∀ t : Fin cfg0.N, (cfg0.win w).flush t = true ↔ t.val % 63 = 62)
    (hi : ∀ t : Fin cfg0.N, cfg0.idle w (grid0.coords t) = true ↔ t.val % 7 ≠ 0) :
    ∀ n, n < cfg0.N → n % 63 ≠ 0 → cfg0.fresh w n = false
  | 0, _, h => absurd rfl h
  | n + 1, hn, h => by
    rw [Cfg.fresh_succ cfg0 w n (by omega), Bool.or_eq_false_iff, Bool.and_eq_false_iff]
    refine ⟨?_, ?_⟩
    · rw [← Bool.not_eq_true, hf]; show ¬ n % 63 = 62; omega
    · by_cases h0 : n % 63 = 0
      · left
        rw [← Bool.not_eq_true]
        exact fun h => (hi ⟨n, by omega⟩).mp h (by show n % 7 = 0; omega)
      · right; exact fresh_false w hf hi n (by omega) h0

/-! ## What the buffers hold after each point -/

/-- The accumulator after the point at position `n`. -/
def accAt (c : Dev nD) : (n : ℕ) → n < cfg0.N → Vec F S256x512 .f32
  | 0, hn => step (grid0.coords ⟨0, hn⟩) (iblk m c 1 ⟨0, hn⟩) (iblk m c 2 ⟨0, hn⟩) (codesOf (iblk m c 0 ⟨0, hn⟩)) k0_pay11
  | n + 1, hn => step (grid0.coords ⟨n + 1, hn⟩) (iblk m c 1 ⟨n + 1, hn⟩) (iblk m c 2 ⟨n + 1, hn⟩) (codesOf (iblk m c 0 ⟨n + 1, hn⟩))
      (if (n + 1) % 7 = 0 then k0_pay11 else accAt c n (Nat.lt_of_succ_lt hn))

/-- At the first point of a block of results the accumulator starts from zero, -/
theorem accAt_first (c : Dev nD) (t : Fin cfg0.N) (h : t.val % 7 = 0) : accAt m c t.val t.isLt
    = step (grid0.coords t) (iblk m c 1 t) (iblk m c 2 t) (codesOf (iblk m c 0 t)) k0_pay11 := by
  obtain ⟨n, hn⟩ := t
  cases n with
  | zero => rfl
  | succ n => exact congrArg (step _ _ _ _) (if_pos h)

/-- and elsewhere from what the point before left. -/
theorem accAt_next (c : Dev nD) (t : Fin cfg0.N) (h : t.val % 7 ≠ 0) : accAt m c t.val t.isLt
    = step (grid0.coords t) (iblk m c 1 t) (iblk m c 2 t) (codesOf (iblk m c 0 t))
        (accAt m c (t.val - 1) (Nat.lt_of_le_of_lt (Nat.sub_le _ _) t.isLt)) := by
  obtain ⟨n, hn⟩ := t
  cases n with
  | zero => exact absurd rfl h
  | succ n => exact congrArg (step _ _ _ _) (if_neg h)

/-- The accumulator's buffer. -/
abbrev scM0_0 : Memref sig .tc .vmem S256x512 .f32 := Memref.whole cc0_scratch0

/-- What the launch hands over: the accumulator's buffer with any contents. -/
theorem PhiA0_eq (c : Dev nD) : (Pipeline.ΦA spec0 c : sProp 𝕄)
    = iprop(iprop((∃ d, owns (c : Thread nD τ) scM0_0 fullShare d)) ∗ (∃ r, prngReg c r)) := by
  unfold Pipeline.ΦA; rw [scopedRest0_eq]; simp only [scM0_0, owns_whole]; try rfl

/-- Before a point: the accumulator as the point before left it. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

/-- The invariant at the first point, after a point, and at a later point. -/
theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-- What the run leaves in each buffer at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accAt m c t.val t.isLt) (scalesOf (iblk m c 0 t))
    | ⟨4, _⟩ => codesOf (iblk m c 0 t)
    | ⟨5, _⟩ => scalesOf (iblk m c 0 t)
  Φ t := PhiS m c t.val (Nat.le_of_lt_succ t.isLt)
  q _ := fullShare
  owed _ := 0

/-- The arrays are recorded as the call finds them. -/
theorem A_eq (c : Dev nD) (w : Fin cfg0.W) : (dats m 0 c).A w = V m c (Pipeline.arrRef spec0 w) := by
  dsimp only [dats]

/-- The invariant before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What is recorded for each window after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (accAt m c t.val t.isLt) (scalesOf (iblk m c 0 t)) := by dsimp only [dats]
theorem after0_4 (c : Dev nD) (t : Fin cfg0.N) : (dats m 0 c).after 4 t = codesOf (iblk m c 0 t) := by dsimp only [dats]
theorem after0_5 (c : Dev nD) (t : Fin cfg0.N) : (dats m 0 c).after 5 t = scalesOf (iblk m c 0 t) := by dsimp only [dats]

/-- The three arguments' buffers hold their blocks before each point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Inside a block of rows the block of activations does not change from a point to the next. -/
theorem iblk0_prev (c : Dev nD) (t : Fin cfg0.N) (h : t.val % 63 ≠ 0) :
    iblk m c 0 t = iblk m c 0 ⟨t.val - 1, Nat.lt_of_le_of_lt (Nat.sub_le _ _) t.isLt⟩ := by
  have hf : (cfg0.win 0).fetch t = false := by rw [← Bool.not_eq_true, fetch0_0]; exact h
  obtain ⟨ht, hix⟩ := (cfg0.win 0).index_eq_of_fetch rfl t hf
  have e : ∀ t, (dats m 0 c).fetched 0 t (iblk m c 0 t) = iblk m c 0 t := fun t => by
    unfold Dat.fetched Dat.blockOf iblk; rw [A_eq]; try rfl
  have e' : ∀ t d, (dats m 0 c).fetched 0 t d = iblk m c 0 t := fun t d => by
    unfold Dat.fetched Dat.blockOf iblk; rw [A_eq]; try rfl
  exact (e t).symm.trans (((dats m 0 c).fetched_congr 0 hix rfl _).trans (e' _ _))

/-- So what is recorded for the codes carries over from a point to the next, -/
theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after0_4, after0_4, iblk0_prev m c t (fun h => (idle4 t).mp hi (by omega))]
/-- and what is recorded for the scales. -/
theorem carry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [after0_5, after0_5, iblk0_prev m c t (fun h => (idle5 t).mp hi (by omega))]

/-- Away from the start of a block of results the codes' buffer holds the codes of the rows, -/
theorem before0_4 (c : Dev nD) (t : Fin cfg0.N) (h : t.val % 7 ≠ 0) (d) : (dats m 0 c).before 4 t d = codesOf (iblk m c 0 t) := by
  have h63 : t.val % 63 ≠ 0 := fun e => h (by omega)
  rw [Dat.before_out_traj _ 4 rfl (fun _ _ => rfl) (carry4 m c) t.val t rfl d,
    if_neg (by rw [fresh_false 4 flush0_4 idle4 _ t.isLt h63]; exact Bool.false_ne_true), after0_4, ← iblk0_prev m c t h63]
/-- and the scales' buffer their scales. -/
theorem before0_5 (c : Dev nD) (t : Fin cfg0.N) (h : t.val % 7 ≠ 0) (d) : (dats m 0 c).before 5 t d = scalesOf (iblk m c 0 t) := by
  have h63 : t.val % 63 ≠ 0 := fun e => h (by omega)
  rw [Dat.before_out_traj _ 5 rfl (fun _ _ => rfl) (carry5 m c) t.val t rfl d,
    if_neg (by rw [fresh_false 5 flush0_5 idle5 _ t.isLt h63]; exact Bool.false_ne_true), after0_5, ← iblk0_prev m c t h63]

end Cert.SlowIdeal.Hand

end
-- ==== Proof.SlowRun.lean ====
/- The run of the slow call over its whole grid, and its frame. -/
module

public import proofs.«01_k».proof.Proof.SlowFrame

@[expose] public section

set_option maxRecDepth 16384

noncomputable section

namespace Cert.SlowIdeal.Hand

open Cert.SlowIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- A buffer the point stores into ends with what is recorded for the point. -/
theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

/-- A buffer the point leaves alone, already holding what is recorded for the point, may be written back or not. -/
theorem leaves_kept (c : Dev nD) (w : Fin cfg0.W) (t : Fin cfg0.N) (hi : cfg0.idle w (grid0.coords t) = true) (d)
    (he : (dats m 0 c).before w t d = (dats m 0 c).after w t) :
    owns (c : Thread nD τ) ((cfg0.win w).stage (cfg0.slots t w)) fullShare ((dats m 0 c).after w t) ⊢ (dats m 0 c).leavesExact w t := by
  unfold Dat.leavesExact; rw [hi]
  cases (cfg0.win w).flush t with
  | true => exact Idealize.SL.BI.Entails.refl _
  | false =>
    rw [← he]
    show _ ⊢ iprop(∃ d, _)
    iintro H
    iexists d; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point does what is recorded for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, after0_0, after0_1, after0_2]
  by_cases h0 : t.val % 7 = 0
  · have h6 : t.val % 7 ≠ 6 := by omega
    rw [Dat.leavesExact_idle (dats m 0 c) 3 t ((idle3 t).mpr h6) (by rw [← Bool.not_eq_true, flush0_3]; exact h6)]
    rw [leaves_live m c 4 t (by rw [← Bool.not_eq_true, idle4]; exact not_not_intro h0), after0_4]
    rw [leaves_live m c 5 t (by rw [← Bool.not_eq_true, idle5]; exact not_not_intro h0), after0_5]
    rw [accAt_first m c t h0]
    have hΦ : (dats m 0 c).Φ t.castSucc ⊢ iprop(iprop((∃ d, owns (c : Thread nD τ) scM0_0 fullShare d)) ∗ (∃ r, prngReg c r)) := by
      rw [PhiS_castSucc m c t]
      by_cases hz : t.val = 0
      · rw [PhiS_zero m c _ _ hz, PhiA0_eq]; try exact Idealize.SL.BI.Entails.refl _
      · rw [PhiS_pos m c _ _ hz]
        iintro ⟨HS0, Hg⟩
        isplitl [HS0]
        · iexists _; iexact HS0
        iexact Hg
    refine Idealize.SL.BI.Entails.trans (Idealize.SL.BI.Laws.sep_mono hΦ (Idealize.SL.BI.Entails.refl _)) ?_
    show (_ : sProp 𝕄) ⊢ _
    iintro ⟨⟨⟨%a, HS0⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ (iblk m c 0 t) (iblk m c 1 t) (iblk m c 2 t) _ _ _ _ ((first_iff t).mpr h0) (fun h => h6 ((last_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexists _; iexact H3
    isplitl [H4]; · iexact H4
    iexact H5
  · rw [PhiS_castSucc m c t, PhiS_pos m c _ _ (fun h => h0 (by omega)), accAt_next m c t h0]
    simp only [before0_4 m c t h0, before0_5 m c t h0]
    by_cases h6 : t.val % 7 = 6
    · rw [leaves_live m c 3 t (by rw [← Bool.not_eq_true, idle3]; exact not_not_intro h6), after0_3, accAt_next m c t h0]
      iintro ⟨⟨HS0, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ (iblk m c 0 t) (iblk m c 1 t) (iblk m c 2 t) _ _ _ _ (fun h => h0 ((first_iff t).mp h)) ((last_iff t).mpr h6) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]
      · iapply (leaves_kept m c 4 t ((idle4 t).mpr h0) d4 ((before0_4 m c t h0 d4).trans (after0_4 m c t).symm))
        iexact H4
      iapply (leaves_kept m c 5 t ((idle5 t).mpr h0) d5 ((before0_5 m c t h0 d5).trans (after0_5 m c t).symm))
      iexact H5
    · rw [Dat.leavesExact_idle (dats m 0 c) 3 t ((idle3 t).mpr h6) (by rw [← Bool.not_eq_true, flush0_3]; exact h6)]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (iblk m c 0 t) (iblk m c 1 t) (iblk m c 2 t) _ _ _ _ (fun h => h0 ((first_iff t).mp h)) (fun h => h6 ((last_iff t).mp h)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexists _; iexact H3
      isplitl [H4]
      · iapply (leaves_kept m c 4 t ((idle4 t).mpr h0) d4 ((before0_4 m c t h0 d4).trans (after0_4 m c t).symm))
        iexact H4
      iapply (leaves_kept m c 5 t ((idle5 t).mpr h0) d5 ((before0_5 m c t h0 d5).trans (after0_5 m c t).symm))
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 1512 := N_0; omega)

/-! ## The run and the frame -/

-- `θ_run_frame_track`'s implicit arguments are found by unifying its conclusion with this one, which takes unfolding plain
-- definitions in a metavariable's type
set_option backward.isDefEq.respectTransparency.types false in
/-- `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The call runs, leaves its arguments unchanged, and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.SlowIdeal.Hand

end
-- ==== Proof.SlowTwin.lean ====
/- The program as printed over bits has the same text as the one read over the extended reals, so its frame is
   the same theorem. -/
module

public import proofs.«01_k».proof.Proof.SlowRun
public import proofs.«01_k».proof.Defs
public import proofs.«01_k».proof.Proof.Gen.Slow
public import proofs.«01_k».proof.Proof.Gen.Slow.Launch

@[expose] public section

set_option maxRecDepth 16384

noncomputable section

namespace Cert.SlowIdeal.Hand

open Idealize.ShloMosaic Idealize.ShloMosaic.TcCoe

variable {F : FTy → Type} [FloatOps F]

/-- The two texts' bodies are the same. -/
theorem twin_bodies : Cert.Slow.defs₀ (F := F) = Cert.SlowIdeal.defs₀ (F := F) := by
  unfold Cert.Slow.defs₀ Cert.SlowIdeal.defs₀
  refine congrArg _ (funext fun l => ?_)
  match l with
  | 0 => rfl
  | ⟨_ + 1, h⟩ => exact absurd h (Nat.not_lt.2 (Nat.le_add_left _ _))

/-- … and so are their calls. -/
theorem twin_calls : Cert.Slow.defs (F := F) = Cert.SlowIdeal.defs (F := F) := congrArg (Pipeline.defs _) twin_bodies

/-- The frame of the text printed over bits. -/
theorem frame_twin : Cert.quiescent_Slow (hSlow := Cert.Slow.Gen.facts) := fun m ρ _ => by
  have h := frame (F := Bits) m ρ
  rw [← twin_calls] at h
  exact h

end Cert.SlowIdeal.Hand

end
-- ==== Proof.SlowPre.lean ====
/- The precondition of the call for widely spread scales read back: every scale is that of a normal number, and every
   activation is at most the largest finite 16-bit float in magnitude. -/
module

public import proofs.«01_k».proof.Proof.Fits
public import proofs.«01_k».proof.Pre_normal

@[expose] public section

noncomputable section

namespace Cert.Mx.Slow

open Idealize.ShloMosaic Cert.Pre_normal

variable [Cert.Pre_normal.Facts] (X : FVec Ideal S6x1024x7168 .bf16) (B : IVec S4608x3584 8) (C : IVec S4608x224 8)
  (h : Cert.Pre_normal.fn (F := Ideal) X B C = fun _ => 1#1)
include h

/-- Every scale is that of a normal number. -/
theorem scale_of_pre (n : Fin 4608) (k : Fin 224) : 1 ≤ (C (ix2 n k)).toNat ∧ (C (ix2 n k)).toNat ≤ 254 := by
  have h0 := (and_true _ _ (congrFun h (Shape.Idx.first Facts.h_S_))).1
  have h1 : IntOp.andi (IntOp.cmpi .sge ((C (ix2 n k)).setWidth 32) 1#32)
      (IntOp.cmpi .sle ((C (ix2 n k)).setWidth 32) 254#32) = 1#1 := Host.reduce_andi_all _ _ _ _ _ h0 (ix2 n k)
  obtain ⟨h2, h3⟩ := and_true _ _ h1
  have h2 : (1 : ℤ) ≤ _ := ge_of_sge _ _ h2
  have h3 : _ ≤ (254 : ℤ) := le_of_sle _ _ h3
  rw [byte_toInt] at h2 h3
  omega

/-- Every row is good. -/
theorem good_of_pre (r : Fin 6144) : Good (rowOf (Host.flat X) r) := by
  refine scaled_lt _ fun k => ?_
  have h0 := (and_true _ _ (congrFun h (Shape.Idx.first Facts.h_S_))).2
  obtain ⟨i, hi⟩ : ∃ i, rowOf (Host.flat X) r k = X i := ⟨_, rfl⟩
  rw [hi]
  exact le_of_ole _ _ (Host.reduce_andi_all _ _ _ _ _ h0 i)

end Cert.Mx.Slow

end
-- ==== Proof.SlowPayload.lean ====
/- The payloads of the call for widely spread scales, at an index: the codes and scales are those of the other route's
   call, and each chunk adds 256 products to the accumulator. -/
module

public import proofs.«01_k».proof.Proof.SlowStep
public import proofs.«01_k».proof.Proof.FastBlock
public import proofs.«01_k».proof.Proof.Equation

@[expose] public section

set_option maxRecDepth 16384

noncomputable section

namespace Cert.Mx.Slow

open Idealize.ShloMosaic Cert.SlowIdeal Cert.SlowIdeal.Hand

/-- The words of the rows' exponents, as this call spells them. -/
def slowWords (x : Vec Ideal S256x7168 .bf16) : IVec S256x1 32 :=
  Gen.k0_pay8 (Gen.k0_pay4 x) (Gen.k0_pay5 x) (Gen.k0_pay6 x) Gen.k0_pay7

/-- The pieces of the quantiser are those of the other route's call. -/
theorem pay4_eq (x : Vec Ideal S256x7168 .bf16) : Gen.k0_pay4 x = Cert.KernelIdeal.Gen.k1_pay3 x := rfl
theorem pay8_eq (t : FVec Ideal S256x1 .f32) (e : IVec S256x1 32) (b : IVec S256x1 1) :
    Gen.k0_pay8 t e b Gen.k0_pay7 = Cert.KernelIdeal.Gen.k1_pay6 t e b 16#32 := rfl
theorem pay5_eq (x : Vec Ideal S256x7168 .bf16) : Gen.k0_pay5 x = Cert.KernelIdeal.Gen.k1_pay4 x := by
  unfold Gen.k0_pay5 Cert.KernelIdeal.Gen.k1_pay4
  rw [pay4_eq]
theorem pay6_eq (x : Vec Ideal S256x7168 .bf16) : Gen.k0_pay6 x = Cert.KernelIdeal.Gen.k1_pay5 x := by
  unfold Gen.k0_pay6 Cert.KernelIdeal.Gen.k1_pay5
  rw [pay4_eq, pay5_eq]

/-- They are the words of the other route. -/
theorem slowWords_eq (x : Vec Ideal S256x7168 .bf16) : slowWords x = words x := by
  unfold slowWords words
  rw [pay8_eq, pay4_eq, pay5_eq, pay6_eq]

theorem pay9_eq (x : FVec Ideal S256x7168 .bf16) (v : IVec S256x1 32) :
    Gen.k0_pay9 x v 0#32 = Cert.KernelIdeal.Gen.k1_pay7 (F := Ideal) x v := rfl
theorem pay3_eq (x : Vec Ideal S256x7168 .bf16) : Gen.k0_pay3 x = x := by
  unfold Gen.k0_pay3
  exact shapeCast_self _ _
theorem pay10_eq (v : IVec S256x1 32) : Gen.k0_pay10 (F := Ideal) v = Cert.KernelIdeal.Gen.k1_pay9 (F := Ideal) v := rfl

/-- The codes are the other route's, -/
theorem codes_eq (x : Vec Ideal S256x7168 .bf16) : codesOf x = blockCodes x := by
  have h : codesOf x = Gen.k0_pay9 (Gen.k0_pay3 x) (slowWords x) 0#32 := rfl
  rw [h, slowWords_eq, pay3_eq, pay9_eq]
  rfl

/-- and so are the scales. -/
theorem scales_eq (x : Vec Ideal S256x7168 .bf16) : scalesOf x = Cert.KernelIdeal.Gen.k1_pay9 (F := Ideal) (words x) := by
  have h : scalesOf x = Gen.k0_pay10 (F := Ideal) (slowWords x) := rfl
  rw [h, slowWords_eq, pay10_eq]

/-- A weight of the kernel: the nibble's number times the power of two of its block. -/
def slowWeight (b s : BitVec 8) (k : ℕ) : EReal := signed half (nibble b k) * pow2 (IntOp.subi (s.setWidth 32) 127#32)

/-- The accumulator after one chunk of 256 products. -/
def added (w : Vec Ideal S512x128 .i8) (s : Vec Ideal S8x512 .i8) (a : Vec Ideal S256x256 .fp8e4m3) (acc : Vec Ideal S256x512 .f32) :
    Vec Ideal S256x512 .f32 := Gen.k0_pay15 (Gen.k0_pay13 (F := Ideal) w) (Gen.k0_pay14 (F := Ideal) w) s a acc

theorem added_apply (w : Vec Ideal S512x128 .i8) (s : Vec Ideal S8x512 .i8) (a : Vec Ideal S256x256 .fp8e4m3)
    (acc : Vec Ideal S256x512 .f32) (r : Fin 256) (l : Fin 512) :
    added w s a acc (ix2 r l) = acc (ix2 r l) + ∑ k : Fin 256, a (ix2 r k)
      * slowWeight (w (ix2 l ⟨k.val / 2, by omega⟩)) (s (ix2 ⟨k.val / 32, by omega⟩ l)) k.val := by
  pointwise [added, Gen.k0_pay15, Gen.k0_pay13, Gen.k0_pay14, Gen.k0_pay12, sitofp_ideal]
  rfl

section
variable (w : Vec Ideal S512x128 .i8) (s : Vec Ideal S8x512 .i8) (a : Vec Ideal S256x256 .fp8e4m3) (acc : Vec Ideal S256x512 .f32)

/-- The four chunks are the same function of their loads. -/
theorem added21 : Gen.k0_pay21 (Gen.k0_pay19 (Gen.k0_pay17 (F := Ideal) w) (Gen.k0_pay18 (F := Ideal) w)) (Gen.k0_pay20 (F := Ideal) s) a acc
    = added w s a acc := rfl
theorem added28 : Gen.k0_pay29 (Gen.k0_pay28 (Gen.k0_pay22 (F := Ideal) w) (Gen.k0_pay23 (F := Ideal) w) (Gen.k0_pay24 (F := Ideal) w)
    (Gen.k0_pay25 (F := Ideal) w) (Gen.k0_pay26 (F := Ideal) w) Gen.k0_pay27 s a acc) = added w s a acc := rfl
theorem added30 : Gen.k0_pay1 (Gen.k0_pay30 (F := Ideal) w) s a acc = added w s a acc := rfl
end

/-- The scaled accumulator. -/
theorem out_apply (acc : Vec Ideal S256x512 .f32) (z : Vec Ideal S1x1x256 .f32) (r : Fin 256) (l : Fin 512) :
    Gen.k0_pay2 acc z (ix2 r l) = acc (ix2 r l) * z (ix3 0 0 r) := by
  pointwise [Gen.k0_pay2]

/-- The accumulator starts at zero. -/
theorem zero_apply (j : S256x512.Idx) : Gen.k0_pay11 (F := Ideal) j = 0 := by
  pointwise [Gen.k0_pay11]

end Cert.Mx.Slow

end
-- ==== Proof.SlowSums.lean ====
/- One grid point of the call for widely spread scales adds 1024 products to each element of the accumulator. -/
module

public import proofs.«01_k».proof.Proof.SlowPayload
public import Idealize.ShloMosaic.Lib.Pipeline.ValueKit

@[expose] public section

set_option maxRecDepth 16384

noncomputable section

namespace Cert.Mx.Slow

open Idealize.ShloMosaic Cert.SlowIdeal Cert.SlowIdeal.Gen Cert.SlowIdeal.Hand

/-- A nibble depends on its position's parity only. -/
theorem nibble_parity (b : BitVec 8) (k k' : ℕ) (h : k % 2 = k' % 2) : nibble b k = nibble b k' := by
  unfold nibble; rw [h]

/-- So do the weights of the kernel and of the reference. -/
theorem slowWeight_parity (b s : BitVec 8) (k k' : ℕ) (h : k % 2 = k' % 2) : slowWeight b s k = slowWeight b s k' := by
  unfold slowWeight; rw [nibble_parity b k k' h]

theorem refWeight_parity (b s : BitVec 8) (k k' : ℕ) (h : k % 2 = k' % 2) : refWeight b s k = refWeight b s k' := by
  unfold refWeight; rw [nibble_parity b k k' h]

/-- Where a block's scale is that of a normal number, the kernel's weight is the reference's. -/
theorem slowWeight_eq (b s : BitVec 8) (k : ℕ) (h0 : 1 ≤ s.toNat) (h1 : s.toNat ≤ 254) : slowWeight b s k = refWeight b s k := by
  have e : (IntOp.subi (s.setWidth 32) 127#32).toInt = (s.toNat : ℤ) - 127 := by
    unfold IntOp.subi
    rw [BitVec.toInt_sub, byte_toInt, show (127#32 : BitVec 32).toInt = 127 from rfl, Int.bmod_eq_of_le (by omega) (by omega)]
  rw [slowWeight, refWeight, signed_half, ref_block_power, ofInt_of_toInt _ _ e, pow2_ofInt _ (by omega) (by omega)]

/-- The column at which a chunk of codes starts. -/
theorem off_val (i : grid0.Coords) (c : Fin 4) : k0_off1 i (BitVec.ofNat 32 (256 * c.val)) 1 = (i 2).val * 1024 + 256 * c.val :=
  (by decide +kernel : ∀ (q : Fin 7) (c : Fin 4), (Scalar.indexCast (Scalar.addi (Scalar.muli (BitVec.ofNat 32 q.val) 1024#32)
    (BitVec.ofNat 32 (256 * c.val)))).toNat = q.val * 1024 + 256 * c.val) (i 2) c

/-- There are seven blocks of products. -/
theorem k_lt (i : grid0.Coords) : (i 2).val < 7 := (i 2).isLt

section
variable (i : grid0.Coords) (x1 : Vec Ideal S512x512 .i8) (x2 : Vec Ideal S32x512 .i8) (a : Vec Ideal S256x7168 .fp8e4m3)
  (acc : Vec Ideal S256x512 .f32) (r : Fin 256) (l : Fin 512) (g : ℕ → EReal)

/-- What the terms of a point's sum are. -/
def Terms : Prop := ∀ k : Fin 1024, a (ix2 r ⟨(i 2).val * 1024 + k.val, by have := k_lt i; omega⟩)
  * slowWeight (x1 (ix2 l ⟨k.val / 2, by omega⟩)) (x2 (ix2 ⟨k.val / 32, by omega⟩ l)) k.val = g ((i 2).val * 1024 + k.val)

variable (h : Terms i x1 x2 a r l g)
include h

/-- A chunk adds its 256 terms. -/
theorem chunk_range (c : Fin 4) (inb1 : ∀ a, (![0, 128 * c.val] : Fin 2 → ℕ) a + S512x128.size a ≤ S512x512.size a)
    (inb2 : ∀ a, (![8 * c.val, 0] : Fin 2 → ℕ) a + S8x512.size a ≤ S32x512.size a)
    (inb3 : ∀ a, k0_off1 i (BitVec.ofNat 32 (256 * c.val)) a + S256x256.size a ≤ S256x7168.size a)
    (hacc : acc (ix2 r l) = ∑ k ∈ Finset.range ((i 2).val * 1024 + 256 * c.val), g k) :
    added (View.ld x1 (Rect.unit (s := S512x512) ![0, 128 * c.val] S512x128.size inb1))
      (View.ld x2 (Rect.unit (s := S32x512) ![8 * c.val, 0] S8x512.size inb2))
      (View.ld a (Rect.unit (s := S256x7168) (k0_off1 i (BitVec.ofNat 32 (256 * c.val))) S256x256.size inb3)) acc (ix2 r l)
      = ∑ k ∈ Finset.range ((i 2).val * 1024 + 256 * c.val + 256), g k := by
  rw [added_apply, Finset.sum_range_add, hacc, Finset.sum_range fun x => g ((i 2).val * 1024 + 256 * c.val + x)]
  refine congrArg _ (Finset.sum_congr rfl fun k _ => ?_)
  have hq := k_lt i
  have hk : 256 * c.val + k.val < 1024 := by omega
  have h' := h ⟨256 * c.val + k.val, hk⟩
  rw [View.ld_unit_apply_of a _ _ inb3 (ix2 r k) (ix2 r ⟨(i 2).val * 1024 + (256 * c.val + k.val), by omega⟩) (fun b => by
        match b with
        | ⟨0, _⟩ => exact (Nat.zero_add _).symm
        | ⟨1, _⟩ => exact (Nat.add_assoc _ _ _).symm.trans (congrArg (· + k.val) (off_val i c).symm)),
    View.ld_unit_apply_of x1 _ _ inb1 (ix2 l ⟨k.val / 2, by omega⟩) (ix2 l ⟨(256 * c.val + k.val) / 2, by omega⟩) (fun b => by
        match b with
        | ⟨0, _⟩ => exact (Nat.zero_add _).symm
        | ⟨1, _⟩ => show (256 * c.val + k.val) / 2 = 128 * c.val + k.val / 2; omega),
    View.ld_unit_apply_of x2 _ _ inb2 (ix2 ⟨k.val / 32, by omega⟩ l) (ix2 ⟨(256 * c.val + k.val) / 32, by omega⟩ l) (fun b => by
        match b with
        | ⟨0, _⟩ => show (256 * c.val + k.val) / 32 = 8 * c.val + k.val / 32; omega
        | ⟨1, _⟩ => exact (Nat.zero_add _).symm),
    slowWeight_parity _ _ k.val (256 * c.val + k.val) (by omega), Nat.add_assoc]
  exact h'

/-- A point adds its 1024 terms. -/
theorem step_range (hacc : acc (ix2 r l) = ∑ k ∈ Finset.range ((i 2).val * 1024), g k) :
    Hand.step i x1 x2 a acc (ix2 r l) = ∑ k ∈ Finset.range ((i 2).val * 1024 + 1024), g k := by
  unfold Hand.step
  rw [added30, added28, added21]
  have h0 := chunk_range i x1 x2 a acc r l g h 0 inb_S512x512_S512x128_0_0 inb_S32x512_S8x512_0_0 (k0_off1_inb i 0) hacc
  have h1 := chunk_range i x1 x2 a _ r l g h 1 inb_S512x512_S512x128_0_128 inb_S32x512_S8x512_8_0 (k0_off1_inb i 1) h0
  have h2 := chunk_range i x1 x2 a _ r l g h 2 inb_S512x512_S512x128_0_256 inb_S32x512_S8x512_16_0 (k0_off1_inb i 2) h1
  exact chunk_range i x1 x2 a _ r l g h 3 inb_S512x512_S512x128_0_384 inb_S32x512_S8x512_24_0 (k0_off1_inb i 3) h2
end

end Cert.Mx.Slow

end
-- ==== Proof.SlowPlaces.lean ====
/- Where the grid points' blocks lie in the arrays of the call for widely spread scales, and that the result blocks
   which are written back cover their arrays. -/
module

public import proofs.«01_k».proof.Proof.SlowFrame

@[expose] public section

set_option maxRecDepth 16384

noncomputable section

namespace Cert.Mx.Slow

open Cert.SlowIdeal Cert.SlowIdeal.Gen Cert.SlowIdeal.Hand Idealize.ShloMosaic Idealize.ShloMosaic.TcCoe Idealize.SL.Sem
open Idealize.ShloMosaic.Pipeline (Dat)

/-- The place of a grid point: its block of rows, its block of columns, its block of products. -/
theorem at0 (t : Fin cfg0.N) : (grid0.coords t 0).val = t.val / 63 := by
  have ht := lt_N t
  have e : (grid0.coords t 0).val = t.val / 63 % 24 := Pipeline.Grid.coords_val t 0 (by decide) rfl
  omega
theorem at1 (t : Fin cfg0.N) : (grid0.coords t 1).val = t.val / 7 % 9 := Pipeline.Grid.coords_val t 1 (by decide) rfl
theorem at2 (t : Fin cfg0.N) : (grid0.coords t 2).val = t.val % 7 := by
  have e : (grid0.coords t 2).val = t.val / 1 % 7 := Pipeline.Grid.coords_val t 2 (by decide) rfl
  omega

/-- A small number survives as a word. -/
theorem word (n : ℕ) (h : n < 1512) : (BitVec.ofNat 32 n).toNat = n := by
  rw [BitVec.toNat_ofNat]; exact Nat.mod_eq_of_lt (by omega)

/-- The windows' block indices at a grid point. -/
theorem idx0 (t : Fin cfg0.N) : win0_0.index t 0 = t.val / 63 ∧ win0_0.index t 1 = 0 := by
  have ht := lt_N t
  refine ⟨?_, rfl⟩
  show (BitVec.ofNat 32 (grid0.coords t 0).val).toNat = _
  rw [at0, word _ (by omega)]
theorem idx1 (t : Fin cfg0.N) : win0_1.index t 0 = t.val / 7 % 9 ∧ win0_1.index t 1 = t.val % 7 := by
  constructor
  · show (BitVec.ofNat 32 (grid0.coords t 1).val).toNat = _
    rw [at1, word _ (by omega)]
  · show (BitVec.ofNat 32 (grid0.coords t 2).val).toNat = _
    rw [at2, word _ (by omega)]
theorem idx2 (t : Fin cfg0.N) : win0_2.index t 0 = t.val % 7 ∧ win0_2.index t 1 = t.val / 7 % 9 := by
  constructor
  · show (BitVec.ofNat 32 (grid0.coords t 2).val).toNat = _
    rw [at2, word _ (by omega)]
  · show (BitVec.ofNat 32 (grid0.coords t 1).val).toNat = _
    rw [at1, word _ (by omega)]
theorem idx3 (t : Fin cfg0.N) : win0_3.index t 0 = t.val / 63 ∧ win0_3.index t 1 = t.val / 7 % 9 := by
  have ht := lt_N t
  constructor
  · show (BitVec.ofNat 32 (grid0.coords t 0).val).toNat = _
    rw [at0, word _ (by omega)]
  · show (BitVec.ofNat 32 (grid0.coords t 1).val).toNat = _
    rw [at1, word _ (by omega)]
theorem idx4 (t : Fin cfg0.N) : win0_4.index t 0 = t.val / 63 ∧ win0_4.index t 1 = 0 := by
  have ht := lt_N t
  refine ⟨?_, rfl⟩
  show (BitVec.ofNat 32 (grid0.coords t 0).val).toNat = _
  rw [at0, word _ (by omega)]
theorem idx5 (t : Fin cfg0.N) : win0_5.index t 0 = t.val / 63 ∧ win0_5.index t 1 = 0 ∧ win0_5.index t 2 = 0 := by
  have ht := lt_N t
  refine ⟨?_, rfl, rfl⟩
  show (BitVec.ofNat 32 (grid0.coords t 0).val).toNat = _
  rw [at0, word _ (by omega)]

/-- Every element of the products lies in a block that is written back. -/
theorem cover3 (i : S6144x4608.Idx) : ∃ t : Fin cfg0.N, (cfg0.win 3).flush t = true ∧ i ∈ ((cfg0.win 3).blk t).view.set := by
  have hi0 : (i 0).val < 6144 := (i 0).isLt
  have hi1 : (i 1).val < 4608 := (i 1).isLt
  obtain ⟨t, ht⟩ : ∃ t : Fin cfg0.N, t.val = 63 * ((i 0).val / 256) + 7 * ((i 1).val / 512) + 6 :=
    ⟨⟨_, lt_of_lt_of_eq (by omega : _ < 1512) N_0.symm⟩, rfl⟩
  refine ⟨t, (flush0_3 t).2 (by omega), ?_⟩
  show i ∈ ((View.whole main_v2_0).slice (win0_3.rect t)).set
  rw [View.set_slice_whole, Rect.mem_set_unit]
  intro a
  match a with
  | ⟨0, _⟩ => show win0_3.index t 0 * 256 ≤ (i 0).val ∧ (i 0).val < win0_3.index t 0 * 256 + 256; rw [(idx3 t).1]; omega
  | ⟨1, _⟩ => show win0_3.index t 1 * 512 ≤ (i 1).val ∧ (i 1).val < win0_3.index t 1 * 512 + 512; rw [(idx3 t).2]; omega

/-- Every element of the codes likewise. -/
theorem cover4 (i : S6144x7168.Idx) : ∃ t : Fin cfg0.N, (cfg0.win 4).flush t = true ∧ i ∈ ((cfg0.win 4).blk t).view.set := by
  have hi0 : (i 0).val < 6144 := (i 0).isLt
  have hi1 : (i 1).val < 7168 := (i 1).isLt
  obtain ⟨t, ht⟩ : ∃ t : Fin cfg0.N, t.val = 63 * ((i 0).val / 256) + 62 := ⟨⟨_, lt_of_lt_of_eq (by omega : _ < 1512) N_0.symm⟩, rfl⟩
  refine ⟨t, (flush0_4 t).2 (by omega), ?_⟩
  show i ∈ ((View.whole main_v2_1).slice (win0_4.rect t)).set
  rw [View.set_slice_whole, Rect.mem_set_unit]
  intro a
  match a with
  | ⟨0, _⟩ => show win0_4.index t 0 * 256 ≤ (i 0).val ∧ (i 0).val < win0_4.index t 0 * 256 + 256; rw [(idx4 t).1]; omega
  | ⟨1, _⟩ => show win0_4.index t 1 * 7168 ≤ (i 1).val ∧ (i 1).val < win0_4.index t 1 * 7168 + 7168; rw [(idx4 t).2]; omega

/-- And every scale. -/
theorem cover5 (i : S24x1x256.Idx) : ∃ t : Fin cfg0.N, (cfg0.win 5).flush t = true ∧ i ∈ ((cfg0.win 5).blk t).view.set := by
  have hi0 : (i 0).val < 24 := (i 0).isLt
  have hi1 : (i 1).val < 1 := (i 1).isLt
  have hi2 : (i 2).val < 256 := (i 2).isLt
  obtain ⟨t, ht⟩ : ∃ t : Fin cfg0.N, t.val = 63 * (i 0).val + 62 := ⟨⟨_, lt_of_lt_of_eq (by omega : _ < 1512) N_0.symm⟩, rfl⟩
  refine ⟨t, (flush0_5 t).2 (by omega), ?_⟩
  show i ∈ ((View.whole main_v2_2).slice (win0_5.rect t)).set
  rw [View.set_slice_whole, Rect.mem_set_unit]
  intro a
  match a with
  | ⟨0, _⟩ => show win0_5.index t 0 * 1 ≤ (i 0).val ∧ (i 0).val < win0_5.index t 0 * 1 + 1; rw [(idx5 t).1]; omega
  | ⟨1, _⟩ => show win0_5.index t 1 * 1 ≤ (i 1).val ∧ (i 1).val < win0_5.index t 1 * 1 + 1; rw [(idx5 t).2.1]; omega
  | ⟨2, _⟩ => show win0_5.index t 2 * 256 ≤ (i 2).val ∧ (i 2).val < win0_5.index t 2 * 256 + 256; rw [(idx5 t).2.2]; omega

end Cert.Mx.Slow

end
-- ==== Proof.SlowArrays.lean ====
/- The three result arrays of the call for widely spread scales, from the arrays it finds. -/
module

public import proofs.«01_k».proof.Proof.SlowSums
public import proofs.«01_k».proof.Proof.SlowPlaces

@[expose] public section

set_option maxRecDepth 16384

noncomputable section

namespace Cert.Mx.Slow

open Cert.SlowIdeal Cert.SlowIdeal.Gen Cert.SlowIdeal.Hand Idealize.ShloMosaic Idealize.ShloMosaic.TcCoe Idealize.SL.Sem
open Idealize.ShloMosaic.Pipeline (Dat)

/-- A row and a column of a grid point's blocks, in the whole arrays. -/
def rowAt (t : Fin cfg0.N) (r : Fin 256) : Fin 6144 := ⟨t.val / 63 * 256 + r.val, by have h := lt_N t; omega⟩
def colAt (t : Fin cfg0.N) (l : Fin 512) : Fin 4608 := ⟨t.val / 7 % 9 * 512 + l.val, by omega⟩

variable (m : (ℓ : Loc nD τ sig) → Buf (Elt Ideal) ℓ) (c : Dev nD)

/-- The activations, the weights' bytes and the scales, as the call finds them. -/
abbrev argX : S6144x7168.Idx → EReal := V m c main_v0
abbrev argB : S4608x3584.Idx → BitVec 8 := V m c main_arg1
abbrev argT : S224x4608.Idx → BitVec 8 := V m c main_v1

/-- The activations' block. -/
theorem blkX (t : Fin cfg0.N) (r : Fin 256) (k : Fin 7168) : iblk m c 0 t (ix2 r k) = argX m c (ix2 (rowAt t r) k) := by
  show V m c main_v0 (((cfg0.win 0).blk t).view.emb (ix2 r k)) = _
  refine congrArg (argX m c) (funext fun a => Fin.ext ?_)
  match a with
  | ⟨0, _⟩ => show win0_0.index t 0 * 256 + 1 * r.val = t.val / 63 * 256 + r.val; rw [(idx0 t).1]; omega
  | ⟨1, _⟩ => show win0_0.index t 1 * 7168 + 1 * k.val = k.val; rw [(idx0 t).2]; omega

/-- The bytes' block. -/
theorem blkB (t : Fin cfg0.N) (l : Fin 512) (k : Fin 512) : iblk m c 1 t (ix2 l k)
    = argB m c (ix2 (colAt t l) ⟨t.val % 7 * 512 + k.val, by omega⟩) := by
  show V m c main_arg1 (((cfg0.win 1).blk t).view.emb (ix2 l k)) = _
  refine congrArg (argB m c) (funext fun a => Fin.ext ?_)
  match a with
  | ⟨0, _⟩ => show win0_1.index t 0 * 512 + 1 * l.val = t.val / 7 % 9 * 512 + l.val; rw [(idx1 t).1]; omega
  | ⟨1, _⟩ => show win0_1.index t 1 * 512 + 1 * k.val = t.val % 7 * 512 + k.val; rw [(idx1 t).2]; omega

/-- The scales' block. -/
theorem blkT (t : Fin cfg0.N) (k : Fin 32) (l : Fin 512) : iblk m c 2 t (ix2 k l)
    = argT m c (ix2 ⟨t.val % 7 * 32 + k.val, by omega⟩ (colAt t l)) := by
  show V m c main_v1 (((cfg0.win 2).blk t).view.emb (ix2 k l)) = _
  refine congrArg (argT m c) (funext fun a => Fin.ext ?_)
  match a with
  | ⟨0, _⟩ => show win0_2.index t 0 * 32 + 1 * k.val = t.val % 7 * 32 + k.val; rw [(idx2 t).1]; omega
  | ⟨1, _⟩ => show win0_2.index t 1 * 512 + 1 * l.val = t.val / 7 % 9 * 512 + l.val; rw [(idx2 t).2]; omega

/-- A row of the block is a row of the array. -/
theorem block_row (t : Fin cfg0.N) (r : Fin 256) :
    (fun k : Fin 7168 => iblk m c 0 t (ix2 r k)) = rowOf (argX m c) (rowAt t r) := funext fun k => blkX m c t r k

/-- The term of an element's sum at a position: the code times the reference's weight. -/
def term (X : S6144x7168.Idx → EReal) (B : S4608x3584.Idx → BitVec 8) (T : S224x4608.Idx → BitVec 8) (R : Fin 6144) (N : Fin 4608)
    (k : ℕ) : EReal :=
  if h : k < 7168 then code (X (ix2 R ⟨k, h⟩)) (rowExp (rowOf X R))
    * refWeight (B (ix2 N ⟨k / 2, by omega⟩)) (T (ix2 ⟨k / 32, by omega⟩ N)) k else 0

/-- The results at a place of the whole arrays. -/
theorem specC_at (X : S6144x7168.Idx → EReal) (R : Fin 6144) (k : Fin 7168) :
    specC X (ix2 R k) = code (X (ix2 R k)) (rowExp (rowOf X R)) := rfl
/-- A scale stands in the group and place of its row. -/
theorem specS_at (X : S6144x7168.Idx → EReal) (a : Fin 24) (l : Fin 256) (R : Fin 6144) (h : R.val = a.val * 256 + l.val) :
    specS X (ix3 a 0 l) = Ideal.exp2 (rowExp (rowOf X R)) := by
  obtain rfl : R = scaleRow (ix3 a 0 l) := Fin.ext h
  rfl

/-- The products from the arrays the call finds. -/
def foundY (X : S6144x7168.Idx → EReal) (B : S4608x3584.Idx → BitVec 8) (T : S224x4608.Idx → BitVec 8) : S6144x4608.Idx → EReal := fun j =>
  (∑ k ∈ Finset.range 7168, term X B T (j 0) (j 1) k) * Ideal.exp2 (rowExp (rowOf X (j 0)))
/-- Their value at a place. -/
theorem foundY_at (X : S6144x7168.Idx → EReal) (B : S4608x3584.Idx → BitVec 8) (T : S224x4608.Idx → BitVec 8) (R : Fin 6144) (N : Fin 4608) :
    foundY X B T (ix2 R N) = (∑ k ∈ Finset.range 7168, term X B T R N k) * Ideal.exp2 (rowExp (rowOf X R)) := rfl

variable (hg : ∀ r, Good (rowOf (argX m c) r))
include hg

/-- The scale of a row of the block. -/
theorem block_scale (t : Fin cfg0.N) (l : Fin 256) :
    scalesOf (iblk m c 0 t) (ix3 0 0 l) = Ideal.exp2 (rowExp (rowOf (argX m c) (rowAt t l))) := by
  rw [scales_eq, fast_scale_row, fast_scale, words_apply, block_row, pow2_row _ (hg _)]

/-- The code of an element of the block. -/
theorem block_code (t : Fin cfg0.N) (r : Fin 256) (k : Fin 7168) :
    codesOf (iblk m c 0 t) (ix2 r k) = code (argX m c (ix2 (rowAt t r) k)) (rowExp (rowOf (argX m c) (rowAt t r))) := by
  rw [codes_eq]
  unfold blockCodes
  rw [fast_code, words_apply, block_row, pow2_neg_row _ (hg _), blkX, code]

/-- The codes. -/
theorem slow_c : (dats m 0 c).arrAt 4 cfg0.N = specC (argX m c) := by
  refine (dats m 0 c).arrAt_eq_of_emb 4 _ (fun t hf y => ?_) cover4
  obtain ⟨r, l, rfl⟩ : ∃ (r : Fin 256) (l : Fin 7168), y = ix2 r l := ⟨y 0, y 1, ValueIdx.eq_ix2 y⟩
  have he : ((cfg0.win 4).blk t).view.emb (ix2 r l) = (ix2 (rowAt t r) l : S6144x7168.Idx) := by
    refine funext fun a => Fin.ext ?_
    match a with
    | ⟨0, _⟩ => show win0_4.index t 0 * 256 + 1 * r.val = t.val / 63 * 256 + r.val; rw [(idx4 t).1]; omega
    | ⟨1, _⟩ => show win0_4.index t 1 * 7168 + 1 * l.val = l.val; rw [(idx4 t).2]; omega
  have hx : (cfg0.win 4).xinj (cfg0.grid.coords t) (ix2 r l) = (ix2 r l : S256x7168.Idx) := rfl
  rw [he, after0_4, hx, cast_eq, block_code m c hg t r l]
  exact (specC_at (argX m c) (rowAt t r) l).symm

/-- The same at any place of the block of scales. -/
theorem block_scales (t : Fin cfg0.N) (y : S1x1x256.Idx) :
    scalesOf (iblk m c 0 t) y = Ideal.exp2 (rowExp (rowOf (argX m c) (rowAt t (y 2)))) := by
  obtain ⟨a, b, l, rfl⟩ : ∃ (a b : Fin 1) (l : Fin 256), y = ix3 a b l := ⟨y 0, y 1, y 2, ValueIdx.eq_ix3 y⟩
  obtain rfl : a = 0 := Subsingleton.elim _ _
  obtain rfl : b = 0 := Subsingleton.elim _ _
  exact block_scale m c hg t l

/-- The scales. -/
theorem slow_s : (dats m 0 c).arrAt 5 cfg0.N = specS (argX m c) := by
  refine (dats m 0 c).arrAt_eq_of_emb 5 _ (fun t hf y => ?_) cover5
  have ht := lt_N t
  have y0 : (y 0).val < 1 := (y 0).isLt
  have y1 : (y 1).val < 1 := (y 1).isLt
  have he : ((cfg0.win 5).blk t).view.emb y = (ix3 (⟨t.val / 63, by omega⟩ : Fin 24) 0 (y 2) : S24x1x256.Idx) := by
    refine funext fun a => Fin.ext ?_
    match a with
    | ⟨0, _⟩ => show win0_5.index t 0 * 1 + 1 * (y 0).val = t.val / 63; rw [(idx5 t).1]; omega
    | ⟨1, _⟩ => show win0_5.index t 1 * 1 + 1 * (y 1).val = 0; rw [(idx5 t).2.1]; omega
    | ⟨2, _⟩ => show win0_5.index t 2 * 256 + 1 * (y 2).val = (y 2).val; rw [(idx5 t).2.2]; omega
  rw [he]
  have e := (specS_at (argX m c) ⟨t.val / 63, by omega⟩ (y 2) (rowAt t (y 2)) rfl)
  rw [after0_5]
  have hx : (cfg0.win 5).xinj (cfg0.grid.coords t) y = (y : S1x1x256.Idx) := rfl
  rw [hx, cast_eq, block_scales m c hg t y]
  exact e.symm

variable (hs : ∀ n k, 1 ≤ (argT m c (ix2 k n)).toNat ∧ (argT m c (ix2 k n)).toNat ≤ 254)
include hs

/-- What a point's sum consists of. -/
theorem block_terms (t : Fin cfg0.N) (r : Fin 256) (l : Fin 512) :
    Terms (grid0.coords t) (iblk m c 1 t) (iblk m c 2 t) (codesOf (iblk m c 0 t)) r l
      (term (argX m c) (argB m c) (argT m c) (rowAt t r) (colAt t l)) := by
  intro k
  have hq := at2 t
  have hlt : (grid0.coords t 2).val * 1024 + k.val < 7168 := by omega
  have e1 : t.val % 7 * 512 + k.val / 2 = ((grid0.coords t 2).val * 1024 + k.val) / 2 := by omega
  have e2 : t.val % 7 * 32 + k.val / 32 = ((grid0.coords t 2).val * 1024 + k.val) / 32 := by omega
  rw [block_code m c hg, blkB, blkT, slowWeight_eq _ _ _ (hs _ _).1 (hs _ _).2, term, dif_pos hlt,
    refWeight_parity _ _ k.val ((grid0.coords t 2).val * 1024 + k.val) (by omega)]
  simp only [e1, e2]

/-- The accumulator after a block's first point: the sum of the terms of one step. -/
theorem acc_first (t : Fin cfg0.N) (h : t.val % 7 = 0) (r : Fin 256) (l : Fin 512) : accAt m c t.val t.isLt (ix2 r l)
    = ∑ k ∈ Finset.range (t.val % 7 * 1024 + 1024), term (argX m c) (argB m c) (argT m c) (rowAt t r) (colAt t l) k := by
  refine (congrFun (accAt_first m c t h) (ix2 r l)).trans ?_
  rw [step_range _ _ _ _ _ _ _ _ (block_terms m c hg hs t r l) (by
    rw [at2, zero_apply, h, Nat.zero_mul, Finset.range_zero, Finset.sum_empty]), at2]

/-- The accumulator after a later point, from the one before it. -/
theorem acc_next (t u : Fin cfg0.N) (hu : u.val + 1 = t.val) (h : ¬ t.val % 7 = 0) (r : Fin 256) (l : Fin 512)
    (a : S256x512.Idx → EReal) (e : accAt m c t.val t.isLt
      = Hand.step (grid0.coords t) (iblk m c 1 t) (iblk m c 2 t) (codesOf (iblk m c 0 t)) a)
    (ih : a (ix2 r l) = ∑ k ∈ Finset.range (u.val % 7 * 1024 + 1024),
      term (argX m c) (argB m c) (argT m c) (rowAt u r) (colAt u l) k) :
    accAt m c t.val t.isLt (ix2 r l)
      = ∑ k ∈ Finset.range (t.val % 7 * 1024 + 1024), term (argX m c) (argB m c) (argT m c) (rowAt t r) (colAt t l) k := by
  have e0 : rowAt t r = rowAt u r := Fin.ext (show t.val / 63 * 256 + r.val = u.val / 63 * 256 + r.val by omega)
  have e1 : colAt t l = colAt u l := Fin.ext (show t.val / 7 % 9 * 512 + l.val = u.val / 7 % 9 * 512 + l.val by omega)
  have e2 : t.val % 7 * 1024 = u.val % 7 * 1024 + 1024 := by omega
  refine (congrFun e (ix2 r l)).trans ?_
  rw [step_range _ _ _ _ _ _ _ _ (block_terms m c hg hs t r l) (by rw [at2, e0, e1, e2]; exact ih), at2]

/-- The accumulator after a point: the sum of the terms up to there. -/
theorem acc_eq (r : Fin 256) (l : Fin 512) : ∀ (n : ℕ) (hn : n < cfg0.N), accAt m c n hn (ix2 r l)
    = ∑ k ∈ Finset.range (n % 7 * 1024 + 1024), term (argX m c) (argB m c) (argT m c) (rowAt ⟨n, hn⟩ r) (colAt ⟨n, hn⟩ l) k := by
  intro n
  induction n with
  | zero => intro hn; exact acc_first m c hg hs ⟨0, hn⟩ rfl r l
  | succ n ih =>
    intro hn
    by_cases h : (n + 1) % 7 = 0
    · exact acc_first m c hg hs ⟨n + 1, hn⟩ h r l
    · exact acc_next m c hg hs ⟨n + 1, hn⟩ ⟨n, Nat.lt_of_succ_lt hn⟩ rfl h r l _ (accAt_next m c ⟨n + 1, hn⟩ h) (ih _)

/-- The products. -/
theorem slow_y : (dats m 0 c).arrAt 3 cfg0.N = foundY (argX m c) (argB m c) (argT m c) := by
  refine (dats m 0 c).arrAt_eq_of_emb 3 _ (fun t hf y => ?_) cover3
  obtain ⟨r, l, rfl⟩ : ∃ (r : Fin 256) (l : Fin 512), y = ix2 r l := ⟨y 0, y 1, ValueIdx.eq_ix2 y⟩
  have he : ((cfg0.win 3).blk t).view.emb (ix2 r l) = (ix2 (rowAt t r) (colAt t l) : S6144x4608.Idx) := by
    refine funext fun a => Fin.ext ?_
    match a with
    | ⟨0, _⟩ => show win0_3.index t 0 * 256 + 1 * r.val = t.val / 63 * 256 + r.val; rw [(idx3 t).1]; omega
    | ⟨1, _⟩ => show win0_3.index t 1 * 512 + 1 * l.val = t.val / 7 % 9 * 512 + l.val; rw [(idx3 t).2]; omega
  have h6 : t.val % 7 = 6 := (flush0_3 t).1 hf
  have e := acc_eq m c hg hs r l t.val t.isLt
  rw [h6, show 6 * 1024 + 1024 = 7168 from rfl] at e
  have hx : (cfg0.win 3).xinj (cfg0.grid.coords t) (ix2 r l) = (ix2 r l : S256x512.Idx) := rfl
  rw [he, after0_3, hx, cast_eq, out_apply, block_scale m c hg, e]
  exact (foundY_at (argX m c) (argB m c) (argT m c) (rowAt t r) (colAt t l)).symm

end Cert.Mx.Slow

end
-- ==== Proof.SlowResults.lean ====
/- The run of the call for widely spread scales: its results from the kernel's own arguments. -/
module

public import proofs.«01_k».proof.Proof.SlowArrays
public import proofs.«01_k».proof.Proof.SlowRun
public import proofs.«01_k».proof.Proof.RefArrays
public import proofs.«01_k».proof.Proof.Equation
public import Idealize.ShloMosaic.Lib.StableHlo.Run
public import Idealize.ShloMosaic.Lib.StableHlo.RunRead
public import Idealize.ShloMosaic.Lib.IdealHost
public import Idealize.ShloMosaic.Lib.Claim

@[expose] public section

set_option maxRecDepth 16384

noncomputable section

namespace Cert.Mx.Slow

open Cert.SlowIdeal Cert.SlowIdeal.Gen Cert.SlowIdeal.Hand Idealize.ShloMosaic Idealize.ShloMosaic.TcCoe Idealize.SL.Sem
open Idealize.ShloMosaic.Pipeline (Dat)

variable (m : (ℓ : Loc nD τ sig) → Buf (Elt Ideal) ℓ) (c : Dev nD)

/-- The kernel's arguments: the activations as a matrix of rows, the weights' bytes, and their scales. -/
abbrev inX : S6144x7168.Idx → EReal := Host.flat (m ((c : Thread nD τ).loc main_arg0))
abbrev inB : S4608x3584.Idx → BitVec 8 := m ((c : Thread nD τ).loc main_arg1)
abbrev inC : S4608x224.Idx → BitVec 8 := m ((c : Thread nD τ).loc main_arg2)

/-- The call finds the activations reshaped, -/
theorem found_x : argX m c = inX m c := by
  unfold_abbrev_sides
  after_results
  rfl
/-- and the scales transposed. -/
theorem found_t : argT m c = Host.scalesT (inC m c) := by
  unfold_abbrev_sides
  after_results
  rfl
/-- The weights' bytes are found as they are. -/
theorem found_b : argB m c = inB m c := V_main_arg1 m c

/-- A term at a position of the row. -/
theorem term_at (X : S6144x7168.Idx → EReal) (B : S4608x3584.Idx → BitVec 8) (C : S4608x224.Idx → BitVec 8) (R : Fin 6144) (N : Fin 4608)
    (k : Fin 7168) : term X B (Host.scalesT C) R N k.val = code (X (ix2 R k)) (rowExp (rowOf X R))
      * refWeight (B (ix2 N ⟨k.val / 2, by omega⟩)) (C (ix2 N ⟨k.val / 32, by omega⟩)) k.val := by
  unfold term
  rw [dif_pos k.isLt, scalesT_apply]

/-- The products it leaves are the reference's. -/
theorem foundY_eq (X : S6144x7168.Idx → EReal) (B : S4608x3584.Idx → BitVec 8) (C : S4608x224.Idx → BitVec 8) :
    foundY X B (Host.scalesT C) = Ref.specP X B C := by
  funext j
  have e : ∑ k ∈ Finset.range 7168, term X B (Host.scalesT C) (j 0) (j 1) k
      = ∑ k : Fin 7168, code (X (ix2 (j 0) k)) (rowExp (rowOf X (j 0)))
        * refWeight (B (ix2 (j 1) ⟨k.val / 2, by omega⟩)) (C (ix2 (j 1) ⟨k.val / 32, by omega⟩)) k.val :=
    (Finset.sum_range _).trans (Finset.sum_congr rfl fun k _ => term_at X B C (j 0) (j 1) k)
  unfold foundY Ref.specP
  rw [e]

/-- The three results, where every row is good and every scale is that of a normal number. -/
theorem slow_results (hg : ∀ r, Good (rowOf (inX m c) r))
    (hs : ∀ n k, 1 ≤ (inC m c (ix2 n k)).toNat ∧ (inC m c (ix2 n k)).toNat ≤ 254) :
    (dats m 0 c).arrAt 3 cfg0.N = Ref.specP (inX m c) (inB m c) (inC m c)
      ∧ (dats m 0 c).arrAt 4 cfg0.N = specC (inX m c) ∧ (dats m 0 c).arrAt 5 cfg0.N = specS (inX m c) := by
  have hg' : ∀ r, Good (rowOf (argX m c) r) := by rw [found_x]; exact hg
  have hs' : ∀ n k, 1 ≤ (argT m c (ix2 k n)).toNat ∧ (argT m c (ix2 k n)).toNat ≤ 254 := by
    intro n k
    rw [found_t, scalesT_apply]
    exact hs n k
  refine ⟨(slow_y m c hg' hs').trans ?_, (slow_c m c hg').trans ?_, (slow_s m c hg').trans ?_⟩
  · rw [found_x, found_b, found_t, foundY_eq]
  · rw [found_x]
  · rw [found_x]

/-- The run: the three result arrays, and the arguments unchanged. -/
theorem run (ρ : Dev nD → PrngReg) (hg : ∀ c r, Good (rowOf (inX m c) r))
    (hs : ∀ c n k, 1 ≤ (inC m c (ix2 n k)).toNat ∧ (inC m c (ix2 n k)).toNat ≤ 254) :
    θ_run defs (onTc (τ := τ) (main (F := Ideal))) ⟨m, fun _ => 0, ρ⟩ fun r => ∀ c : Dev nD,
      r.2.mem ((c : Thread nD τ).loc main_v2_0) = Ref.specP (inX m c) (inB m c) (inC m c)
      ∧ r.2.mem ((c : Thread nD τ).loc main_v2_1) = specC (inX m c)
      ∧ r.2.mem ((c : Thread nD τ).loc main_v2_2) = specS (inX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (slow_results m c (hg c) (hs c)).1,
      ((h c).1 4).trans (slow_results m c (hg c) (hs c)).2.1, ((h c).1 5).trans (slow_results m c (hg c) (hs c)).2.2,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.Mx.Slow

end
-- ==== Proof.lean ====
/- The proof of the claims: both routes of the kernel and their reference end without fault with their arguments
   unchanged, the ideal programs are the routes' own texts, and each route computes the same products, codes and scales
   as the reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_fits
public import proofs.«01_k».proof.Proof.Gen.Slow
public import proofs.«01_k».proof.Proof.Gen.Slow.Skeleton
public import proofs.«01_k».proof.Proof.Gen.Slow.Launch
public import proofs.«01_k».proof.Proof.Gen.Slow.Points
public import proofs.«01_k».proof.Proof.Gen.Slow.Frame
public import proofs.«01_k».proof.Proof.Gen.SlowIdeal
public import proofs.«01_k».proof.Proof.Gen.SlowIdeal.Skeleton
public import proofs.«01_k».proof.Proof.Gen.SlowIdeal.Launch
public import proofs.«01_k».proof.Proof.Gen.SlowIdeal.Points
public import proofs.«01_k».proof.Proof.Gen.SlowIdeal.Frame
public import proofs.«01_k».proof.Proof.Gen.Pre_normal
public import proofs.«01_k».proof.Proof.Run
public import proofs.«01_k».proof.Proof.FastArrays
public import proofs.«01_k».proof.Proof.Equation
public import proofs.«01_k».proof.Proof.SlowTwin
public import proofs.«01_k».proof.Proof.SlowPre
public import proofs.«01_k».proof.Proof.SlowResults
public import Idealize.ShloMosaic.Adequacy
public import Idealize.ShloMosaic.Init

@[expose] public section

noncomputable section

namespace Cert.Proof

open Idealize.ShloMosaic Idealize.SL.Sem Cert.Kernel

section
variable (m : (ℓ : Loc Cert.KernelIdeal.nD Cert.KernelIdeal.τ Cert.KernelIdeal.sig) → Buf (Elt Ideal) ℓ)
  (g : Dev Cert.KernelIdeal.nD → PrngReg) (c : Dev Cert.KernelIdeal.nD)

/-- The kernel's arguments: the activations as a matrix of rows, the weights' bytes, and their scales. -/
abbrev argX : Cert.KernelIdeal.S6144x7168.Idx → EReal :=
  Mx.Host.flat (m ((c.tc : Thread Cert.KernelIdeal.nD Cert.KernelIdeal.τ).loc Cert.KernelIdeal.main_arg0))
abbrev argB : IVec Cert.KernelIdeal.S4608x3584 8 := m ((c.tc : Thread Cert.KernelIdeal.nD Cert.KernelIdeal.τ).loc Cert.KernelIdeal.main_arg1)
abbrev argC : IVec Cert.KernelIdeal.S4608x224 8 := m ((c.tc : Thread Cert.KernelIdeal.nD Cert.KernelIdeal.τ).loc Cert.KernelIdeal.main_arg2)

/-- The second call finds the activations reshaped, the decoded weights, and the column scales. -/
theorem found_x : Mx.argX (Cert.KernelIdeal.Gen.V3 m g) c = argX m c := Mx.Host.v3_x m g c
theorem found_w : Mx.argW (Cert.KernelIdeal.Gen.V3 m g) c
    = Mx.Decode.arrW (argB m c) (Mx.Host.scalesT (argC m c)) (Mx.Host.bases (Mx.Host.tops (argC m c))) := by
  refine (Mx.Host.v3_w m g c).trans ((Mx.Decode.arr_eq (Cert.KernelIdeal.Gen.V1 m g) c).trans ?_)
  have e0 : Mx.Decode.argB (Cert.KernelIdeal.Gen.V1 m g) c = argB m c := Mx.Host.v1_bytes m g c
  have e1 : Mx.Decode.argT (Cert.KernelIdeal.Gen.V1 m g) c = Mx.Host.scalesT (argC m c) := Mx.Host.v1_scales m g c
  have e2 : Mx.Decode.argE (Cert.KernelIdeal.Gen.V1 m g) c = Mx.Host.bases (Mx.Host.tops (argC m c)) := Mx.Host.v1_bases m g c
  rw [e0, e1, e2]
theorem found_s : Mx.argS (Cert.KernelIdeal.Gen.V3 m g) c = Mx.Host.colScales (Mx.Host.bases (Mx.Host.tops (argC m c))) :=
  Mx.Host.v3_scales m g c

/-- The kernel's three results. -/
theorem kernel_y (hg : ∀ r, Mx.Good (Mx.rowOf (argX m c) r))
    (hf : ∀ n k, Mx.Fits (Mx.Host.tops (argC m c) (ix1 n)) (argC m c (ix2 n k)).toNat) :
    (Cert.KernelIdeal.Gen.dat1 (Cert.KernelIdeal.Gen.V3 m g) c).arrAt 3 Cert.KernelIdeal.cfg1.N
      = Mx.Ref.specP (argX m c) (argB m c) (argC m c) := by
  rw [Mx.fast_y _ _ (by rw [found_x]; exact hg), found_x, found_w, found_s]
  exact Mx.products_eq _ _ _ hf
theorem kernel_c (hg : ∀ r, Mx.Good (Mx.rowOf (argX m c) r)) :
    (Cert.KernelIdeal.Gen.dat1 (Cert.KernelIdeal.Gen.V3 m g) c).arrAt 4 Cert.KernelIdeal.cfg1.N = Mx.specC (argX m c) := by
  rw [Mx.fast_c _ _ (by rw [found_x]; exact hg), found_x]
theorem kernel_s (hg : ∀ r, Mx.Good (Mx.rowOf (argX m c) r)) :
    (Cert.KernelIdeal.Gen.dat1 (Cert.KernelIdeal.Gen.V3 m g) c).arrAt 5 Cert.KernelIdeal.cfg1.N = Mx.specS (argX m c) := by
  rw [Mx.fast_s _ _ (by rw [found_x]; exact hg), found_x]
end

/-- Under the precondition, the kernel and the reference run and end with equal results and unchanged arguments. -/
theorem algebraic : Cert.algebraic_KernelIdeal_ReferenceIdeal_pre_fits (hKernelIdeal := Cert.KernelIdeal.Gen.facts)
    (hReferenceIdeal := Cert.ReferenceIdeal.Gen.facts) (hPre_fits := Cert.Pre_fits.Gen.facts) := by
  intro m g m' g' hpre hargs
  have hg : ∀ c r, Mx.Good (Mx.rowOf (argX m c) r) := fun c r =>
    letI := Cert.Pre_fits.Gen.facts
    Mx.good_of_pre _ _ _ (hpre c) r
  have hf : ∀ c n k, Mx.Fits (Mx.Host.tops (argC m c) (ix1 n)) (argC m c (ix2 n k)).toNat := fun c n k =>
    letI := Cert.Pre_fits.Gen.facts
    Mx.column_of_pre _ _ _ (hpre c) n k
  refine ⟨fun c => Mx.Ref.specP (argX m c) (argB m c) (argC m c), fun c => Mx.specC (argX m c),
    fun c => Mx.specS (argX m c), ?_, ?_⟩
  · refine (θ_run _ _ _).mono (fun r h c => ?_) (Cert.KernelIdeal.Gen.run_results m g)
    obtain ⟨a0, a1, a2, h0, h1, h2⟩ := h c
    exact ⟨h0.trans (kernel_y m g c (hg c) (hf c)), h1.trans (kernel_c m g c (hg c)), h2.trans (kernel_s m g c (hg c)), a0, a1, a2⟩
  · refine (θ_run _ _ _).mono (fun r h c => ?_) (Mx.Ref.run m' g')
    obtain ⟨h0, h1, h2, h3⟩ := h c
    obtain ⟨a0, a1, a2⟩ := hargs c
    have e0 : Mx.Ref.argX m' c = argX m c := congrArg Mx.Ref.flat a0
    have e1 : Mx.Ref.argB m' c = argB m c := a1
    have e2 : Mx.Ref.argC m' c = argC m c := a2
    rw [e0, e1, e2] at h0
    rw [e0] at h1 h2
    exact ⟨h0, h1, h2, h3⟩

/-- The same of the route for widely spread scales, under its own precondition. -/
theorem algebraic_slow : Cert.algebraic_SlowIdeal_ReferenceIdeal_pre_normal (hSlowIdeal := Cert.SlowIdeal.Gen.facts)
    (hReferenceIdeal := Cert.ReferenceIdeal.Gen.facts) (hPre_normal := Cert.Pre_normal.Gen.facts) := by
  intro m g m' g' hpre hargs
  have hg : ∀ c r, Mx.Good (Mx.rowOf (Mx.Slow.inX m c) r) := fun c r =>
    letI := Cert.Pre_normal.Gen.facts
    Mx.Slow.good_of_pre _ _ _ (hpre c) r
  have hs : ∀ c n k, 1 ≤ (Mx.Slow.inC m c (ix2 n k)).toNat ∧ (Mx.Slow.inC m c (ix2 n k)).toNat ≤ 254 := fun c n k =>
    letI := Cert.Pre_normal.Gen.facts
    Mx.Slow.scale_of_pre _ _ _ (hpre c) n k
  refine ⟨fun c => Mx.Ref.specP (Mx.Slow.inX m c) (Mx.Slow.inB m c) (Mx.Slow.inC m c), fun c => Mx.specC (Mx.Slow.inX m c),
    fun c => Mx.specS (Mx.Slow.inX m c), Mx.Slow.run m g hg hs, ?_⟩
  refine (θ_run _ _ _).mono (fun r h c => ?_) (Mx.Ref.run m' g')
  obtain ⟨h0, h1, h2, h3⟩ := h c
  obtain ⟨a0, a1, a2⟩ := hargs c
  have e0 : Mx.Ref.argX m' c = Mx.Slow.inX m c := congrArg Mx.Ref.flat a0
  have e1 : Mx.Ref.argB m' c = Mx.Slow.inB m c := a1
  have e2 : Mx.Ref.argC m' c = Mx.Slow.inC m c := a2
  rw [e0, e1, e2] at h0
  rw [e0] at h1 h2
  exact ⟨h0, h1, h2, h3⟩

/-- All claims. -/
theorem claim : Cert.Claim := ⟨Cert.Kernel.Gen.facts, Cert.KernelIdeal.Gen.facts, Cert.ReferenceIdeal.Gen.facts, Cert.Slow.Gen.facts,
  Cert.SlowIdeal.Gen.facts, Cert.Pre_fits.Gen.facts, Cert.Pre_normal.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.ReferenceIdeal.Gen.frame m ρ, Cert.SlowIdeal.Hand.frame_twin, fun m ρ _ => Cert.SlowIdeal.Hand.frame m ρ,
  fun m ρ _ => Cert.SlowIdeal.Hand.frame m ρ, trivial, algebraic, trivial, algebraic_slow⟩

end Cert.Proof

end
